-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_image_tokens [hPre_all_image_tokens : Cert.Pre_all_image_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_all_image_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_image_tokens [hPre_all_image_tokens : Cert.Pre_all_image_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_image_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_image_tokens [hKernelIdeal : Cert.KernelIdeal.Facts] [hPre_all_image_tokens : Cert.Pre_all_image_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_image_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_image_tokens [hReferenceIdeal : Cert.ReferenceIdeal.Facts] [hPre_all_image_tokens : Cert.Pre_all_image_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_image_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_all_image_tokens [hKernelIdeal : Cert.KernelIdeal.Facts] [hReferenceIdeal : Cert.ReferenceIdeal.Facts] [hPre_all_image_tokens : Cert.Pre_all_image_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_image_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_on_in_place [hKernelIdeal : Cert.KernelIdeal.Facts] [hReferenceIdeal : Cert.ReferenceIdeal.Facts] [hOn_in_place : Cert.On_in_place.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 1024, 1024]⟩ : Shape).Idx, (Cert.On_in_place.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v2_0) i = v0 c i)
          ∧ (∀ i : (⟨2, ![4, 1024]⟩ : Shape).Idx, (Cert.On_in_place.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v3) i = v1 c i)
          ∧ (∀ i : (⟨3, ![4, 1024, 1024]⟩ : Shape).Idx, (Cert.On_in_place.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v2_1) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 1024, 1024]⟩ : Shape).Idx, (Cert.On_in_place.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v15) i = v0 c i)
          ∧ (∀ i : (⟨2, ![4, 1024]⟩ : Shape).Idx, (Cert.On_in_place.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v16) i = v1 c i)
          ∧ (∀ i : (⟨3, ![4, 1024, 1024]⟩ : Shape).Idx, (Cert.On_in_place.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v3) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_all_image_tokens : Cert.Pre_all_image_tokens.Facts) (hOn_in_place : Cert.On_in_place.Facts),
    quiescent_Kernel (hKernel := hKernel)
    ∧ quiescent_KernelIdeal (hKernelIdeal := hKernelIdeal)
    ∧ quiescent_KernelIdeal_pre_all_image_tokens (hKernelIdeal := hKernelIdeal) (hPre_all_image_tokens := hPre_all_image_tokens)
    ∧ quiescent_ReferenceIdeal (hReferenceIdeal := hReferenceIdeal)
    ∧ quiescent_ReferenceIdeal_pre_all_image_tokens (hReferenceIdeal := hReferenceIdeal) (hPre_all_image_tokens := hPre_all_image_tokens)
    ∧ preserves_Kernel_KernelIdeal
    ∧ algebraic_KernelIdeal_ReferenceIdeal_pre_all_image_tokens (hKernelIdeal := hKernelIdeal) (hReferenceIdeal := hReferenceIdeal) (hPre_all_image_tokens := hPre_all_image_tokens)
    ∧ algebraic_KernelIdeal_ReferenceIdeal_on_in_place (hKernelIdeal := hKernelIdeal) (hReferenceIdeal := hReferenceIdeal) (hOn_in_place := hOn_in_place)
-- ==== On_in_place.lean ====
abbrev S4x1024 : Shape := ⟨2, ![4, 1024]⟩
abbrev S4x3x512x512 : Shape := ⟨4, ![4, 3, 512, 512]⟩
abbrev S100000x1024 : Shape := ⟨2, ![100000, 1024]⟩
abbrev S768x1024 : Shape := ⟨2, ![768, 1024]⟩
abbrev S_ : Shape := ⟨0, ![]⟩
abbrev S4x1024x1024 : Shape := ⟨3, ![4, 1024, 1024]⟩
abbrev S4x1024x1 : Shape := ⟨3, ![4, 1024, 1]⟩

class Facts : Prop where
  bcast_S_S4x1024 : S_.BroadcastsInDim S4x1024 (![] : Fin 0 → Fin S4x1024.rank)
  natLt_1_32 : 1 < 32
  bcast_S_S_ : S_.BroadcastsInDim S_ (![] : Fin 0 → Fin S_.rank)
  reduceWindows_S4x1024_S4x1024_w1s1p0_0_w1024s1p1023_0 : S4x1024.ReduceWindows (![1, 1024] : Fin 2 → Nat) ![1, 1] ![0, 1023] ![0, 0] S4x1024
  h_S_ : 0 < S_.numel
  bcast_S_S4x1024x1024 : S_.BroadcastsInDim S4x1024x1024 (![] : Fin 0 → Fin S4x1024x1024.rank)
  bcast_S4x1024_S4x1024x1_0_1 : S4x1024.BroadcastsInDim S4x1024x1 (![0, 1] : Fin 2 → Fin S4x1024x1.rank)
  bcast_S4x1024x1_S4x1024x1024_0_1_2 : S4x1024x1.BroadcastsInDim S4x1024x1024 (![0, 1, 2] : Fin 3 → Fin S4x1024x1024.rank)

variable [Facts]

def fn_cumsum_0 {F : FTy → Type} [FloatOps F] (arg0 : IVec S4x1024 32) : IVec S4x1024 32 :=
  let c : IVec S_ 32 := constantI S_ 32 0#32
  let v0 : IVec S_ 32 := broadcastInDim S_ ![] bcast_S_S_ c
  let v1 : IVec S4x1024 32 := (fun x v => Host.reduceWindow IntOp.addi ![1, 1024] ![1, 1] ![0, 1023] ![0, 0] x v reduceWindows_S4x1024_S4x1024_w1s1p0_0_w1024s1p1023_0 h_S_) arg0 v0
  v1

def fn_cumsum {F : FTy → Type} [FloatOps F] (arg0 : IVec S4x1024 32) : IVec S4x1024 32 :=
  let v0 : IVec S4x1024 32 := fn_cumsum_0 (F := F) arg0
  v0

def fn {F : FTy → Type} [FloatOps F] (main_arg0 : IVec S4x1024 32) (main_arg1 : FVec F S4x3x512x512 .f32) (main_arg2 : IVec S4x1024 32) (main_arg3 : FVec F S100000x1024 .f32) (main_arg4 : FVec F S768x1024 .f32) : IVec S4x1024x1024 1 × IVec S4x1024 1 × IVec S4x1024x1024 1 :=
  let main_c : IVec S_ 32 := constantI S_ 32 0#32
  let main_v0 : IVec S4x1024 32 := broadcastInDim S4x1024 ![] bcast_S_S4x1024 main_c
  let main_v1 : IVec S4x1024 1 := cmpi .eq main_arg0 main_v0
  let main_v2 : IVec S4x1024 32 := (extui 32 · natLt_1_32) main_v1
  let main_v3 : IVec S4x1024 32 := fn_cumsum (F := F) main_v2
  let main_c_0 : IVec S_ 32 := constantI S_ 32 1#32
  let main_v4 : IVec S4x1024 32 := broadcastInDim S4x1024 ![] bcast_S_S4x1024 main_c_0
  let main_v5 : IVec S4x1024 32 := subi main_v3 main_v4
  let main_v6 : IVec S4x1024 32 := iotaInDim S4x1024 32 1
  let main_v7 : IVec S4x1024 1 := cmpi .eq main_v5 main_v6
  let main_v8 : IVec S4x1024 1 := andi main_v1 main_v7
  let main_v9 : IVec S4x1024x1024 32 := iotaInDim S4x1024x1024 32 2
  let main_c_1 : IVec S_ 32 := constantI S_ 32 0#32
  let main_v10 : IVec S4x1024x1024 32 := broadcastInDim S4x1024x1024 ![] bcast_S_S4x1024x1024 main_c_1
  let main_v11 : IVec S4x1024x1024 1 := cmpi .sge main_v9 main_v10
  let main_v12 : IVec S4x1024x1 1 := broadcastInDim S4x1024x1 ![0, 1] bcast_S4x1024_S4x1024x1_0_1 main_v8
  let main_v13 : IVec S4x1024x1024 1 := broadcastInDim S4x1024x1024 ![0, 1, 2] bcast_S4x1024x1_S4x1024x1024_0_1_2 main_v12
  let main_v14 : IVec S4x1024 32 := iotaInDim S4x1024 32 1
  let main_c_2 : IVec S_ 32 := constantI S_ 32 0#32
  let main_v15 : IVec S4x1024 32 := broadcastInDim S4x1024 ![] bcast_S_S4x1024 main_c_2
  let main_v16 : IVec S4x1024 1 := cmpi .sge main_v14 main_v15
  (main_v13, main_v16, main_v11)
-- ==== Pre_all_image_tokens.lean ====
abbrev S4x1024 : Shape := ⟨2, ![4, 1024]⟩
abbrev S4x3x512x512 : Shape := ⟨4, ![4, 3, 512, 512]⟩
abbrev S100000x1024 : Shape := ⟨2, ![100000, 1024]⟩
abbrev S768x1024 : Shape := ⟨2, ![768, 1024]⟩
abbrev S_ : Shape := ⟨0, ![]⟩

class Facts : Prop where
  bcast_S_S4x1024 : S_.BroadcastsInDim S4x1024 (![] : Fin 0 → Fin S4x1024.rank)

variable [Facts]

def fn {F : FTy → Type} [FloatOps F] (main_arg0 : IVec S4x1024 32) (main_arg1 : FVec F S4x3x512x512 .f32) (main_arg2 : IVec S4x1024 32) (main_arg3 : FVec F S100000x1024 .f32) (main_arg4 : FVec F S768x1024 .f32) : IVec S4x1024 1 :=
  let main_c : IVec S_ 32 := constantI S_ 32 0#32
  let main_v0 : IVec S4x1024 32 := broadcastInDim S4x1024 ![] bcast_S_S4x1024 main_c
  let main_v1 : IVec S4x1024 1 := cmpi .eq main_arg0 main_v0
  main_v1
-- ==== Kernel.lean ====
abbrev S4x1024 : Shape := ⟨2, ![4, 1024]⟩
abbrev S4x3x512x512 : Shape := ⟨4, ![4, 3, 512, 512]⟩
abbrev S100000x1024 : Shape := ⟨2, ![100000, 1024]⟩
abbrev S768x1024 : Shape := ⟨2, ![768, 1024]⟩
abbrev S4x1x1024 : Shape := ⟨3, ![4, 1, 1024]⟩
abbrev S4x1024x1024 : Shape := ⟨3, ![4, 1024, 1024]⟩
abbrev S1x3x256x512 : Shape := ⟨4, ![1, 3, 256, 512]⟩
abbrev S1x1x512 : Shape := ⟨3, ![1, 1, 512]⟩
abbrev S1x512x1024 : Shape := ⟨3, ![1, 512, 1024]⟩
abbrev S1x3x128x512 : Shape := ⟨4, ![1, 3, 128, 512]⟩
abbrev S3x128x512 : Shape := ⟨3, ![3, 128, 512]⟩
abbrev S3x8x16x512 : Shape := ⟨4, ![3, 8, 16, 512]⟩
abbrev S8x3x16x512 : Shape := ⟨4, ![8, 3, 16, 512]⟩
abbrev S8x48x32x16 : Shape := ⟨4, ![8, 48, 32, 16]⟩
abbrev S8x32x48x16 : Shape := ⟨4, ![8, 32, 48, 16]⟩
abbrev S256x768 : Shape := ⟨2, ![256, 768]⟩
abbrev S256x1024 : Shape := ⟨2, ![256, 1024]⟩
abbrev S1x256x1024 : Shape := ⟨3, ![1, 256, 1024]⟩
abbrev S1x512 : Shape := ⟨2, ![1, 512]⟩

abbrev nBuf : Space → Nat
  | .hbm => 11
  | .vmem => 13
  | .smem => 0
  | _ => 0

abbrev bufTy : (tb : Table) → Fin (tcTables nBuf tb) → BufTy
  | .hbm, ⟨0, _⟩ => ⟨S4x1024, .i32⟩
  | .hbm, ⟨1, _⟩ => ⟨S4x3x512x512, .f32⟩
  | .hbm, ⟨2, _⟩ => ⟨S4x1024, .i32⟩
  | .hbm, ⟨3, _⟩ => ⟨S100000x1024, .f32⟩
  | .hbm, ⟨4, _⟩ => ⟨S768x1024, .f32⟩
  | .hbm, ⟨5, _⟩ => ⟨S4x1x1024, .i32⟩
  | .hbm, ⟨6, _⟩ => ⟨S4x1x1024, .i32⟩
  | .hbm, ⟨7, _⟩ => ⟨S4x1024x1024, .f32⟩
  | .hbm, ⟨8, _⟩ => ⟨S4x1024x1024, .f32⟩
  | .hbm, ⟨9, _⟩ => ⟨S4x1x1024, .i32⟩
  | .hbm, ⟨10, _⟩ => ⟨S4x1024, .i32⟩
  | .local _ .vmem, ⟨0, _⟩ => ⟨S1x3x256x512, .f32⟩
  | .local _ .vmem, ⟨1, _⟩ => ⟨S1x3x256x512, .f32⟩
  | .local _ .vmem, ⟨2, _⟩ => ⟨S768x1024, .f32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1x1x512, .i32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x512, .i32⟩
  | .local _ .vmem, ⟨12, _⟩ => ⟨S1x1x512, .i32⟩
  | _, _ => ⟨S4x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x1024 : Shape := ⟨2, ![4, 1024]⟩
abbrev S4x3x512x512 : Shape := ⟨4, ![4, 3, 512, 512]⟩
abbrev S100000x1024 : Shape := ⟨2, ![100000, 1024]⟩
abbrev S768x1024 : Shape := ⟨2, ![768, 1024]⟩
abbrev S4x3x32x16x32x16 : Shape := ⟨6, ![4, 3, 32, 16, 32, 16]⟩
abbrev S4x32x32x3x16x16 : Shape := ⟨6, ![4, 32, 32, 3, 16, 16]⟩
abbrev S4x1024x768 : Shape := ⟨3, ![4, 1024, 768]⟩
abbrev S4x1024x1024 : Shape := ⟨3, ![4, 1024, 1024]⟩
abbrev S_ : Shape := ⟨0, ![]⟩
abbrev S4x1024x1 : Shape := ⟨3, ![4, 1024, 1]⟩
abbrev S1 : Shape := ⟨1, ![1]⟩
abbrev S1x1x1 : Shape := ⟨3, ![1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4x1024, .i32⟩
  | .hbm, ⟨1, _⟩ => ⟨S4x3x512x512, .f32⟩
  | .hbm, ⟨2, _⟩ => ⟨S4x1024, .i32⟩
  | .hbm, ⟨3, _⟩ => ⟨S100000x1024, .f32⟩
  | .hbm, ⟨4, _⟩ => ⟨S768x1024, .f32⟩
  | .hbm, ⟨5, _⟩ => ⟨S4x3x32x16x32x16, .f32⟩
  | .hbm, ⟨6, _⟩ => ⟨S4x32x32x3x16x16, .f32⟩
  | .hbm, ⟨7, _⟩ => ⟨S4x1024x768, .f32⟩
  | .hbm, ⟨8, _⟩ => ⟨S4x1024x1024, .f32⟩
  | .hbm, ⟨9, _⟩ => ⟨S_, .i32⟩
  | .hbm, ⟨10, _⟩ => ⟨S4x1024, .i32⟩
  | .hbm, ⟨11, _⟩ => ⟨S4x1024, .i1⟩
  | .hbm, ⟨12, _⟩ => ⟨S_, .i32⟩
  | .hbm, ⟨13, _⟩ => ⟨S4x1024, .i32⟩
  | .hbm, ⟨14, _⟩ => ⟨S4x1024, .i32⟩
  | .hbm, ⟨15, _⟩ => ⟨S4x1024, .i32⟩
  | .hbm, ⟨16, _⟩ => ⟨S4x1024x1, .i32⟩
  | .hbm, ⟨17, _⟩ => ⟨S1, .i32⟩
  | .hbm, ⟨18, _⟩ => ⟨S_, .i32⟩
  | .hbm, ⟨19, _⟩ => ⟨S4x1024x1, .i32⟩
  | .hbm, ⟨20, _⟩ => ⟨S4x1024x1, .i1⟩
  | .hbm, ⟨21, _⟩ => ⟨S1x1x1, .i32⟩
  | .hbm, ⟨22, _⟩ => ⟨S4x1024x1, .i32⟩
  | .hbm, ⟨23, _⟩ => ⟨S4x1024x1, .i1⟩
  | .hbm, ⟨24, _⟩ => ⟨S4x1024x1, .i1⟩
  | .hbm, ⟨25, _⟩ => ⟨S_, .i1⟩
  | .hbm, ⟨26, _⟩ => ⟨S4x1024, .i1⟩
  | .hbm, ⟨27, _⟩ => ⟨S4x1024x1024, .f32⟩
  | .hbm, ⟨28, _⟩ => ⟨S4x1024x1024, .i1⟩
  | .hbm, ⟨29, _⟩ => ⟨S_, .f32⟩
  | .hbm, ⟨30, _⟩ => ⟨S4x1024x1024, .f32⟩
  | .hbm, ⟨31, _⟩ => ⟨S4x1024x1024, .f32⟩
  | .hbm, ⟨32, _⟩ => ⟨S_, .i32⟩
  | .hbm, ⟨33, _⟩ => ⟨S4x1024, .i32⟩
  | .hbm, ⟨34, _⟩ => ⟨S4x1024, .i1⟩
  | .hbm, ⟨35, _⟩ => ⟨S4x1024, .i32⟩
  | .hbm, ⟨36, _⟩ => ⟨S_, .i32⟩
  | .hbm, ⟨37, _⟩ => ⟨S_, .i32⟩
  | .hbm, ⟨38, _⟩ => ⟨S4x1024, .i32⟩
  | .hbm, ⟨39, _⟩ => ⟨S_, .i32⟩
  | .hbm, ⟨40, _⟩ => ⟨S4x1024, .i32⟩
  | .hbm, ⟨41, _⟩ => ⟨S4x1024, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S4x1024, .i32⟩
  | .hbm, ⟨46, _⟩ => ⟨S4x1024, .i32⟩
  | .hbm, ⟨47, _⟩ => ⟨S_, .i32⟩
  | .hbm, ⟨48, _⟩ => ⟨S4x1024, .i32⟩
  | .hbm, ⟨49, _⟩ => ⟨S4x1024, .i32⟩
  | .hbm, ⟨50, _⟩ => ⟨S4x1024x1, .i32⟩
  | .hbm, ⟨51, _⟩ => ⟨S_, .i32⟩
  | .hbm, ⟨52, _⟩ => ⟨S4x1024x1, .i32⟩
  | .hbm, ⟨53, _⟩ => ⟨S4x1024x1, .i1⟩
  | .hbm, ⟨54, _⟩ => ⟨S_, .i32⟩
  | .hbm, ⟨55, _⟩ => ⟨S4x1024x1, .i32⟩
  | .hbm, ⟨56, _⟩ => ⟨S4x1024x1, .i32⟩
  | .hbm, ⟨57, _⟩ => ⟨S4x1024x1, .i32⟩
  | .hbm, ⟨58, _⟩ => ⟨S1, .i32⟩
  | .hbm, ⟨59, _⟩ => ⟨S_, .i32⟩
  | .hbm, ⟨60, _⟩ => ⟨S4x1024x1, .i32⟩
  | .hbm, ⟨61, _⟩ => ⟨S4x1024x1, .i1⟩
  | .hbm, ⟨62, _⟩ => ⟨S1x1x1, .i32⟩
  | .hbm, ⟨63, _⟩ => ⟨S4x1024x1, .i32⟩
  | .hbm, ⟨64, _⟩ => ⟨S4x1024x1, .i1⟩
  | .hbm, ⟨65, _⟩ => ⟨S4x1024x1, .i1⟩
  | .hbm, ⟨66, _⟩ => ⟨S_, .i1⟩
  | .hbm, ⟨67, _⟩ => ⟨S4x1024, .i1⟩
  | .hbm, ⟨68, _⟩ => ⟨S4x1024x1024, .f32⟩
  | .hbm, ⟨69, _⟩ => ⟨S4x1024x1024, .i1⟩
  | .hbm, ⟨70, _⟩ => ⟨S_, .f32⟩
  | .hbm, ⟨71, _⟩ => ⟨S4x1024x1024, .f32⟩
  | .hbm, ⟨72, _⟩ => ⟨S4x1024x1024, .f32⟩
  | .hbm, ⟨73, _⟩ => ⟨S4x1024x1, .i1⟩
  | .hbm, ⟨74, _⟩ => ⟨S4x1024x1024, .i1⟩
  | .hbm, ⟨75, _⟩ => ⟨S4x1024x1024, .f32⟩
  | .hbm, ⟨76, _⟩ => ⟨S_, .i32⟩
  | .hbm, ⟨77, _⟩ => ⟨S_, .i32⟩
  | .hbm, ⟨78, _⟩ => ⟨S4x1024, .i32⟩
  | .hbm, ⟨79, _⟩ => ⟨S4x1024, .i32⟩
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_c : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call1_call0_c : Ref sig .tc := ⟨.hbm, 36, rfl⟩
abbrev main_call1_call0_v0 : Ref sig .tc := ⟨.hbm, 37, rfl⟩
abbrev main_v8 : Ref sig .tc := ⟨.hbm, 38, rfl⟩
abbrev main_c_0 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_c_2 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v11 : Ref sig .tc := ⟨.hbm, 49, rfl⟩
abbrev main_v12 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_c_1 : Ref sig .tc := ⟨.hbm, 58, rfl⟩
abbrev main_call3_c_2 : Ref sig .tc := ⟨.hbm, 59, rfl⟩
abbrev main_call3_v5 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_c_3 : Ref sig .tc := ⟨.hbm, 66, rfl⟩
abbrev main_call3_v11 : Ref sig .tc := ⟨.hbm, 67, rfl⟩
abbrev main_call3_v12 : Ref sig .tc := ⟨.hbm, 68, rfl⟩
abbrev main_call3_v13 : Ref sig .tc := ⟨.hbm, 69, rfl⟩
abbrev main_call3_cst : Ref sig .tc := ⟨.hbm, 70, rfl⟩
abbrev main_call3_v14 : Ref sig .tc := ⟨.hbm, 71, rfl⟩
abbrev main_v13 : Ref sig .tc := ⟨.hbm, 72, rfl⟩
abbrev main_v14 : Ref sig .tc := ⟨.hbm, 73, rfl⟩
abbrev main_call4_v0 : Ref sig .tc := ⟨.hbm, 74, rfl⟩
abbrev main_v15 : Ref sig .tc := ⟨.hbm, 75, rfl⟩
abbrev main_c_3 : Ref sig .tc := ⟨.hbm, 76, rfl⟩
abbrev main_call5_v0 : Ref sig .tc := ⟨.hbm, 77, rfl⟩
abbrev main_call5_v1 : Ref sig .tc := ⟨.hbm, 78, rfl⟩
abbrev main_v16 : Ref sig .tc := ⟨.hbm, 79, rfl⟩

abbrev nD : Nat := 1
abbrev τ : Topo := Topo.v7x

variable {F : FTy → Type} [FloatOps F]
-- ==== Proof.Patch.lean ====
/- The patch product, as plain mathematics: entry (b, n, d) of the image features is the sum over the 768 pixels of
   patch n of image b, in the order channel, pixel row, pixel column, of the pixel times row k of the weights. -/
module

public import Idealize.ShloMosaic.PureOps.Ideal
public import Idealize.ShloMosaic.Lib.ValueIdx

@[expose] public section

noncomputable section

namespace Cert.Patch

open Idealize.ShloMosaic Idealize.ShloMosaic.ValueIdx

/-- The channel of pixel `k` of a patch. -/
abbrev chan (k : Fin 768) : Fin 3 := ⟨k.val / 256, by omega⟩

/-- In a strip of `R` rows of patches, the pixel row of pixel `k` of patch `n`: 32 patches lie side by side. -/
abbrev prow (R : Nat) (n : Fin (R * 32)) (k : Fin 768) : Fin (R * 16) := ⟨n.val / 32 * 16 + k.val % 256 / 16, by omega⟩

/-- The pixel column of pixel `k` of patch `n`. -/
abbrev pcol (n : Nat) (k : Fin 768) : Fin 512 := ⟨n % 32 * 16 + k.val % 16, by omega⟩

/-- Entry (n, d) of the patch product of one strip of `R` rows of patches: the strip is a batch of one. -/
def strip (R : Nat) (x : (⟨4, ![1, 3, R * 16, 512]⟩ : Shape).Idx → EReal) (w : (⟨2, ![768, 1024]⟩ : Shape).Idx → EReal)
    (n : Fin (R * 32)) (d : Fin 1024) : EReal :=
  ∑ k : Fin 768, x (ix4 (0 : Fin 1) (chan k) (prow R n k) (pcol n.val k)) * w (ix2 k d)

/-- Entry (b, n, d) of the image features. -/
def feature (img : (⟨4, ![4, 3, 512, 512]⟩ : Shape).Idx → EReal) (w : (⟨2, ![768, 1024]⟩ : Shape).Idx → EReal) :
    (⟨3, ![4, 1024, 1024]⟩ : Shape).Idx → EReal := fun y =>
  ∑ k : Fin 768, img (ix4 (y 0 : Fin 4) (chan k) (prow 32 (y 1 : Fin 1024) k) (pcol (y 1).val k)) * w (ix2 k (y 2 : Fin 1024))

/-- The patch product of a strip of 16 rows of patches is its part of the features: where the strip is pixel rows
    `256h` to `256h + 255` of image `b`, its patch `n` is patch `512h + n` of the image. -/
theorem strip_eq_feature (x : (⟨4, ![1, 3, 16 * 16, 512]⟩ : Shape).Idx → EReal) (img : (⟨4, ![4, 3, 512, 512]⟩ : Shape).Idx → EReal)
    (w : (⟨2, ![768, 1024]⟩ : Shape).Idx → EReal) (b : Fin 4) (h : Nat) (hh : h < 2) (n : Fin 512) (d : Fin 1024)
    (hx : ∀ (a : Fin 3) (r : Fin 256) (q : Fin 512),
      x (ix4 (0 : Fin 1) a r q) = img (ix4 b a (⟨h * 256 + r.val, by omega⟩ : Fin 512) q)) :
    strip 16 x w n d = feature img w (ix3 b (⟨h * 512 + n.val, by omega⟩ : Fin 1024) d) := by
  refine Finset.sum_congr rfl fun k _ => congrArg (· * w (ix2 k d)) ((hx _ _ _).trans (congrArg img (funext fun a => Fin.ext ?_)))
  match a with
  | ⟨0, _⟩ => rfl
  | ⟨1, _⟩ => rfl
  | ⟨2, _⟩ =>
    show h * 256 + (n.val / 32 * 16 + k.val % 256 / 16) = (h * 512 + n.val) / 32 * 16 + k.val % 256 / 16
    omega
  | ⟨3, _⟩ =>
    show n.val % 32 * 16 + k.val % 16 = (h * 512 + n.val) % 32 * 16 + k.val % 16
    omega

end Cert.Patch

end
-- ==== Proof.Half.lean ====
/- What the kernel computes from one half of its block of pixels: the patch product of a strip of 8 rows of patches. The
   kernel lays the patches out as rows of a matrix by reshapes and transposes, which move entries only. -/
module

public import proofs.«01_k».proof.Proof.Gen.KernelIdeal.Skeleton
public import proofs.«01_k».proof.Proof.Patch
public import Idealize.ShloMosaic.Lib.Pipeline.Value
public import Idealize.ShloMosaic.PureOps.Ideal.Laws
public import Idealize.ShloMosaic.Lib.Pointwise.Contract

@[expose] public section

noncomputable section

namespace Cert.KernelIdeal.Half

open Cert.KernelIdeal Cert.KernelIdeal.Gen Idealize.ShloMosaic.ValueIdx
open Idealize.ShloMosaic hiding ix1 ix2 ix3 ix4

/-- The strip re-laid as a matrix, a row per patch: the kernel's chain of reshapes and transposes. -/
def rows (x : FVec Ideal S1x3x128x512 .f32) : FVec Ideal S256x768 .bf16 :=
  shapeCast S256x768 (transpose S8x32x48x16 [0, 2, 1, 3] (shapeCast S8x48x32x16 (transpose S8x3x16x512 [1, 0, 2, 3]
    (shapeCast S3x8x16x512 (truncf .bf16 (shapeCast S3x128x512 x shapeCasts_S1x3x128x512_S3x128x512 : FVec Ideal S3x128x512 .f32) bitsLt_bf16_f32)
      shapeCasts_S3x128x512_S3x8x16x512) transposes_S3x8x16x512_p1_0_2_3_S8x3x16x512) shapeCasts_S8x3x16x512_S8x48x32x16)
    transposes_S8x48x32x16_p0_2_1_3_S8x32x48x16) shapeCasts_S8x32x48x16_S256x768

/-- Entry (n, k) of that matrix is pixel `k` of patch `n` of the strip. -/
theorem rows_apply (x : FVec Ideal S1x3x128x512 .f32) (n : Fin 256) (k : Fin 768) :
    rows x (ix2 n k) = x (ix4 (0 : Fin 1) (Patch.chan k) (Patch.prow 8 n k) (Patch.pcol n.val k)) := by
  unfold rows
  have hn := n.isLt
  have hk := k.isLt
  refine (shapeCast_apply _ _ (ix2 n k) (ix4 (⟨n.val / 32, by omega⟩ : Fin 8) (⟨n.val % 32, by omega⟩ : Fin 32) (⟨k.val / 16, by omega⟩ : Fin 48) (⟨k.val % 16, by omega⟩ : Fin 16)) (by
    rw [Shape.rowMajor_val_four, Shape.rowMajor_val_two]
    show ((n.val / 32 * 32 + n.val % 32) * 48 + k.val / 16) * 16 + k.val % 16 = n.val * 768 + k.val
    omega)).trans ?_
  refine (transpose_apply _ _ _ _ (ix4 (⟨n.val / 32, by omega⟩ : Fin 8) (⟨k.val / 16, by omega⟩ : Fin 48) (⟨n.val % 32, by omega⟩ : Fin 32) (⟨k.val % 16, by omega⟩ : Fin 16)) (fun b => by
    match b with | ⟨0, _⟩ => rfl | ⟨1, _⟩ => rfl | ⟨2, _⟩ => rfl | ⟨3, _⟩ => rfl)).trans ?_
  refine (shapeCast_apply _ _ _ (ix4 (⟨n.val / 32, by omega⟩ : Fin 8) (Patch.chan k) (⟨k.val % 256 / 16, by omega⟩ : Fin 16) (Patch.pcol n.val k)) (by
    rw [Shape.rowMajor_val_four, Shape.rowMajor_val_four]
    show ((n.val / 32 * 3 + k.val / 256) * 16 + k.val % 256 / 16) * 512 + (n.val % 32 * 16 + k.val % 16)
      = ((n.val / 32 * 48 + k.val / 16) * 32 + n.val % 32) * 16 + k.val % 16
    omega)).trans ?_
  refine (transpose_apply _ _ _ _ (ix4 (Patch.chan k) (⟨n.val / 32, by omega⟩ : Fin 8) (⟨k.val % 256 / 16, by omega⟩ : Fin 16) (Patch.pcol n.val k)) (fun b => by
    match b with | ⟨0, _⟩ => rfl | ⟨1, _⟩ => rfl | ⟨2, _⟩ => rfl | ⟨3, _⟩ => rfl)).trans ?_
  refine (shapeCast_apply _ _ _ (ix3 (Patch.chan k) (Patch.prow 8 n k) (Patch.pcol n.val k)) (by
    rw [Shape.rowMajor_val_three, Shape.rowMajor_val_four]
    show (k.val / 256 * 128 + (n.val / 32 * 16 + k.val % 256 / 16)) * 512 + (n.val % 32 * 16 + k.val % 16)
      = ((k.val / 256 * 8 + n.val / 32) * 16 + k.val % 256 / 16) * 512 + (n.val % 32 * 16 + k.val % 16)
    omega)).trans ?_
  show shapeCast S3x128x512 x shapeCasts_S1x3x128x512_S3x128x512 _ = _
  exact shapeCast_apply _ _ _ _ (by
    rw [Shape.rowMajor_val_three, Shape.rowMajor_val_four]
    show ((0 * 3 + k.val / 256) * 128 + (n.val / 32 * 16 + k.val % 256 / 16)) * 512 + (n.val % 32 * 16 + k.val % 16)
      = (k.val / 256 * 128 + (n.val / 32 * 16 + k.val % 256 / 16)) * 512 + (n.val % 32 * 16 + k.val % 16)
    omega)

/-- The product of the first half, read at an entry. -/
theorem product_apply (w : FVec Ideal S768x1024 .f32) (x : FVec Ideal S1x3x128x512 .f32) (n : Fin 256) (d : Fin 1024) :
    k0_pay4 (F := Ideal) w x (ix2 n d) = Patch.strip 8 x w n d := by
  show FloatOps.matmul dot_S256x768_S768x1024_S256x1024_1_0_0_1_n_n none (rows x) (k0_pay3 w) (constant S256x1024 .f32 0x00000000#32) (ix2 n d) = _
  rw [Ideal.matmul_constant_zero_apply, DotDims.sum_contr₁ dot_S256x768_S768x1024_S256x1024_1_0_0_1_n_n (a := (1 : Fin 2)) rfl (K := 768) rfl]
  refine Finset.sum_congr rfl fun k _ => ?_
  refine congrArg₂ (· * ·) ((congrArg (rows x) ?_).trans (rows_apply x n k)) (congrArg w ?_)
  · funext a; match a with | ⟨0, _⟩ => rfl | ⟨1, _⟩ => rfl
  · funext a; match a with | ⟨0, _⟩ => rfl | ⟨1, _⟩ => rfl

/-- The second half runs the same operations. -/
theorem product_second (w : FVec Ideal S768x1024 .f32) (x : FVec Ideal S1x3x128x512 .f32) : k0_pay7 (F := Ideal) w x = k0_pay4 (F := Ideal) w x := rfl

/-- The product stored with a leading batch axis of one. -/
theorem stored_apply (y : FVec Ideal S256x1024 .f32) (j : S1x256x1024.Idx) :
    shapeCast S1x256x1024 y shapeCasts_S256x1024_S1x256x1024 j = y (ix2 (j 1 : Fin 256) (j 2 : Fin 1024)) :=
  shapeCast_apply _ _ _ _ (by
    rw [Shape.rowMajor_val_two, Shape.rowMajor_val_three]
    have h0 : (j 0).val < 1 := (j 0).isLt
    show (j 1).val * 1024 + (j 2).val = ((j 0).val * 256 + (j 1).val) * 1024 + (j 2).val
    omega)

end Cert.KernelIdeal.Half

end
-- ==== Proof.Block.lean ====
/- What one grid point leaves in its three result blocks, as functions of its blocks of the arguments: the patch product
   of a strip of 16 rows of patches, twice, and the labels with the image tokens' masked. -/
module

public import proofs.«01_k».proof.Proof.Gen.KernelIdeal.Frame
public import proofs.«01_k».proof.Proof.Half

@[expose] public section

noncomputable section

namespace Cert.KernelIdeal.Block

open Cert.KernelIdeal Cert.KernelIdeal.Gen Idealize.ShloMosaic.ValueIdx
open Idealize.ShloMosaic hiding ix1 ix2 ix3 ix4

/-- The 512 patches of one block of pixels times the weights. -/
def product (x : Vec Ideal S1x3x256x512 .f32) (w : Vec Ideal S768x1024 .f32) : Vec Ideal S1x512x1024 .f32 :=
  fun y => Patch.strip 16 x w (y 1 : Fin 512) (y 2 : Fin 1024)

/-- A half strip of patches is rows `h·8 …` of the strip: patch `n` of the half that starts at pixel row `o = h·128` is
    patch `h·256 + n` of the block. -/
theorem half_strip (x : Vec Ideal S1x3x256x512 .f32) (w : Vec Ideal S768x1024 .f32) (x' : FVec Ideal S1x3x128x512 .f32)
    (w' : FVec Ideal S768x1024 .f32) (h : Nat) (hh : h < 2) (hx : ∀ (a : Fin 3) (r : Fin 128) (q : Fin 512),
      x' (ix4 (0 : Fin 1) a r q) = x (ix4 (0 : Fin 1) a (⟨h * 128 + r.val, by omega⟩ : Fin 256) q))
    (hw : w' = w) (n : Fin 256) (d : Fin 1024) :
    Patch.strip 8 x' w' n d = Patch.strip 16 x w (⟨h * 256 + n.val, by omega⟩ : Fin 512) d := by
  subst hw
  unfold Patch.strip
  refine Finset.sum_congr rfl fun k _ => ?_
  refine congrArg (· * w' (ix2 k d)) ((hx _ _ _).trans (congrArg x ?_))
  have hn := n.isLt
  have hk := k.isLt
  funext a
  refine Fin.ext ?_
  match a with
  | ⟨0, _⟩ => rfl
  | ⟨1, _⟩ => rfl
  | ⟨2, _⟩ =>
    show h * 128 + (n.val / 32 * 16 + k.val % 256 / 16) = (h * 256 + n.val) / 32 * 16 + k.val % 256 / 16
    omega
  | ⟨3, _⟩ =>
    show n.val % 32 * 16 + k.val % 16 = (h * 256 + n.val) % 32 * 16 + k.val % 16
    omega

/-- The weights loaded whole are the weights. -/
theorem weights (w : Vec Ideal S768x1024 .f32) : View.ld (Val := Elt Ideal) w r0_0 = w := by
  funext j
  refine congrArg w (funext fun a => Fin.ext ?_)
  match a with
  | ⟨0, _⟩ => show 0 + 1 * (j 0).val = (j 0).val; omega
  | ⟨1, _⟩ => show 0 + 1 * (j 1).val = (j 1).val; omega

/-- The first half's store holds the product's first 256 rows. -/
theorem first_half (x : Vec Ideal S1x3x256x512 .f32) (w : Vec Ideal S768x1024 .f32) (j : S1x256x1024.Idx) :
    shapeCast S1x256x1024 (k0_pay4 (F := Ideal) (View.ld (Val := Elt Ideal) w r0_0) (View.ld (Val := Elt Ideal) x r0_1)) shapeCasts_S256x1024_S1x256x1024 j
      = product x w (r0_2.emb j) := by
  refine (Half.stored_apply _ j).trans ((Half.product_apply _ _ _ _).trans ((half_strip x w _ _ 0 (by omega) (fun a r q => ?_) (weights w) _ _).trans ?_))
  rotate_left
  · show Patch.strip 16 x w _ _ = Patch.strip 16 x w _ _
    refine congrArg₂ (Patch.strip 16 x w) (Fin.ext ?_) (Fin.ext ?_)
    · show 0 * 256 + (j 1).val = 0 + 1 * (j 1).val; omega
    · show (j 2).val = 0 + 1 * (j 2).val; omega
  · refine congrArg x (funext fun b => Fin.ext ?_)
    match b with
    | ⟨0, _⟩ => rfl
    | ⟨1, _⟩ => show 0 + 1 * a.val = a.val; omega
    | ⟨2, _⟩ => show 0 + 1 * r.val = 0 * 128 + r.val; omega
    | ⟨3, _⟩ => show 0 + 1 * q.val = q.val; omega

/-- The second half's store holds the product's last 256 rows. -/
theorem second_half (x : Vec Ideal S1x3x256x512 .f32) (w : Vec Ideal S768x1024 .f32) (j : S1x256x1024.Idx) :
    shapeCast S1x256x1024 (k0_pay4 (F := Ideal) (View.ld (Val := Elt Ideal) w r0_0) (View.ld (Val := Elt Ideal) x r0_3)) shapeCasts_S256x1024_S1x256x1024 j
      = product x w (r0_4.emb j) := by
  refine (Half.stored_apply _ j).trans ((Half.product_apply _ _ _ _).trans ((half_strip x w _ _ 1 (by omega) (fun a r q => ?_) (weights w) _ _).trans ?_))
  rotate_left
  · show Patch.strip 16 x w _ _ = Patch.strip 16 x w _ _
    refine congrArg₂ (Patch.strip 16 x w) (Fin.ext ?_) (Fin.ext ?_)
    · show 1 * 256 + (j 1).val = 256 + 1 * (j 1).val; omega
    · show (j 2).val = 0 + 1 * (j 2).val; omega
  · refine congrArg x (funext fun b => Fin.ext ?_)
    match b with
    | ⟨0, _⟩ => rfl
    | ⟨1, _⟩ => show 0 + 1 * a.val = a.val; omega
    | ⟨2, _⟩ => show 128 + 1 * r.val = 1 * 128 + r.val; omega
    | ⟨3, _⟩ => show 0 + 1 * q.val = q.val; omega

/-- The embeddings' block after the body. -/
theorem embeddings (x : Vec Ideal S1x3x256x512 .f32) (w : Vec Ideal S768x1024 .f32) (i l : Vec Ideal S1x1x512 .i32) :
    out0_4 x w i l = product x w := by
  funext y
  refine View.canon_apply_of_pieces (Val := Elt Ideal) (product x w) _ ?_ y (cover0_4 _ _ y)
  intro pc hpc
  rcases List.mem_cons.mp hpc with rfl | hpc
  · exact second_half x w
  rcases List.mem_cons.mp hpc with rfl | hpc
  · exact first_half x w
  nomatch hpc

/-- The features' block after the body: the same. -/
theorem features (x : Vec Ideal S1x3x256x512 .f32) (w : Vec Ideal S768x1024 .f32) (i l : Vec Ideal S1x1x512 .i32) :
    out0_5 x w i l = product x w := by
  funext y
  refine View.canon_apply_of_pieces (Val := Elt Ideal) (product x w) _ ?_ y (cover0_5 _ _ y)
  intro pc hpc
  rcases List.mem_cons.mp hpc with rfl | hpc
  · exact second_half x w
  rcases List.mem_cons.mp hpc with rfl | hpc
  · exact first_half x w
  nomatch hpc

/-- A block's ids or labels loaded whole. -/
theorem ids (i : Vec Ideal S1x1x512 .i32) : View.ld (Val := Elt Ideal) i r0_5 = i := by
  funext j
  refine congrArg i (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- The label kept at an id: the ignored label at an image token, its own label elsewhere. -/
def kept (i l : BitVec 32) : BitVec 32 := Scalar.select (IntOp.cmpi .eq i 0#32) 4294967196#32 l

/-- The labels' store at an index. -/
theorem label_store (i l : Vec Ideal S1x1x512 .i32) (z : S1x1x512.Idx) : k0_pay2 (F := Ideal) i l z = kept (i z) (l z) := by
  have hz0 : (z 0).val < 1 := (z 0).isLt
  have hz1 : (z 1).val < 1 := (z 1).isLt
  have flat : (S1x512.rowMajor (ix2 (0 : Fin 1) (z 2 : Fin 512))).val = (S1x1x512.rowMajor z).val := by
    rw [Shape.rowMajor_val_two, Shape.rowMajor_val_three]
    show 0 * 512 + (z 2).val = ((z 0).val * 1 + (z 1).val) * 512 + (z 2).val
    omega
  unfold k0_pay2
  refine (shapeCast_apply _ _ z (ix2 (0 : Fin 1) (z 2 : Fin 512)) flat).trans ?_
  show kept (shapeCast S1x512 i _ _) (shapeCast S1x512 l _ _) = _
  exact congrArg₂ kept (shapeCast_apply i _ _ z flat.symm) (shapeCast_apply l _ _ z flat.symm)

/-- The labels' block after the body. -/
theorem labels (x : Vec Ideal S1x3x256x512 .f32) (w : Vec Ideal S768x1024 .f32) (i l : Vec Ideal S1x1x512 .i32) :
    out0_6 x w i l = fun y => kept (i y) (l y) := by
  funext y
  refine View.canon_apply_of_pieces (Val := Elt Ideal) (fun y => kept (i y) (l y)) _ ?_ y (cover0_6 _ y)
  intro pc hpc
  rcases List.mem_cons.mp hpc with rfl | hpc
  · intro z
    rw [ids, ids]
    have e : r0_5.emb z = z := by
      funext a
      refine Fin.ext ?_
      match a with
      | ⟨0, _⟩ => show 0 + 1 * (z 0).val = (z 0).val; omega
      | ⟨1, _⟩ => show 0 + 1 * (z 1).val = (z 1).val; omega
      | ⟨2, _⟩ => show 0 + 1 * (z 2).val = (z 2).val; omega
    rw [e]
    exact label_store i l z
  nomatch hpc

end Cert.KernelIdeal.Block

end
-- ==== Proof.Arrays.lean ====
/- What the kernel's three result arrays hold after the grid: the image features, twice, and the masked labels. Each grid
   point writes one block of each array, block (b, r) from block (b, r) of the arguments, and the blocks tile the arrays. -/
module

public import proofs.«01_k».proof.Proof.Block

@[expose] public section

noncomputable section

namespace Cert.KernelIdeal.Arrays

open Cert.KernelIdeal Cert.KernelIdeal.Gen Idealize.ShloMosaic.ValueIdx Idealize.ShloMosaic.TcCoe Idealize.SL.Sem
open Idealize.ShloMosaic hiding ix1 ix2 ix3 ix4
open Idealize.ShloMosaic.Pipeline (Dat)

variable (m : (ℓ : Loc nD τ sig) → Buf (Elt Ideal) ℓ)

/-- The block indices at a grid point: image `t / 2`, half `t % 2`. -/
theorem index_facts : ∀ t : Fin cfg0.N,
    (win0_0.index t 0 = t.val / 2 ∧ win0_0.index t 1 = 0 ∧ win0_0.index t 2 = t.val % 2 ∧ win0_0.index t 3 = 0)
    ∧ (win0_1.index t 0 = 0 ∧ win0_1.index t 1 = 0)
    ∧ (win0_2.index t 0 = t.val / 2 ∧ win0_2.index t 1 = 0 ∧ win0_2.index t 2 = t.val % 2)
    ∧ (win0_3.index t 0 = t.val / 2 ∧ win0_3.index t 1 = 0 ∧ win0_3.index t 2 = t.val % 2)
    ∧ (win0_4.index t 0 = t.val / 2 ∧ win0_4.index t 1 = t.val % 2 ∧ win0_4.index t 2 = 0)
    ∧ (win0_5.index t 0 = t.val / 2 ∧ win0_5.index t 1 = t.val % 2 ∧ win0_5.index t 2 = 0)
    ∧ (win0_6.index t 0 = t.val / 2 ∧ win0_6.index t 1 = 0 ∧ win0_6.index t 2 = t.val % 2) :=
  (by decide +kernel : ∀ t : Fin grid0.N,
    (win0_0.index t 0 = t.val / 2 ∧ win0_0.index t 1 = 0 ∧ win0_0.index t 2 = t.val % 2 ∧ win0_0.index t 3 = 0)
    ∧ (win0_1.index t 0 = 0 ∧ win0_1.index t 1 = 0)
    ∧ (win0_2.index t 0 = t.val / 2 ∧ win0_2.index t 1 = 0 ∧ win0_2.index t 2 = t.val % 2)
    ∧ (win0_3.index t 0 = t.val / 2 ∧ win0_3.index t 1 = 0 ∧ win0_3.index t 2 = t.val % 2)
    ∧ (win0_4.index t 0 = t.val / 2 ∧ win0_4.index t 1 = t.val % 2 ∧ win0_4.index t 2 = 0)
    ∧ (win0_5.index t 0 = t.val / 2 ∧ win0_5.index t 1 = t.val % 2 ∧ win0_5.index t 2 = 0)
    ∧ (win0_6.index t 0 = t.val / 2 ∧ win0_6.index t 1 = 0 ∧ win0_6.index t 2 = t.val % 2))

theorem point_lt (t : Fin cfg0.N) : t.val < 8 := by
  have hN : cfg0.N = 8 := N_0
  have := t.isLt
  omega

/-- The block of pixels at a point: 256 pixel rows of one image. -/
theorem pixels (c : Dev nD) (t : Fin cfg0.N) (a : Fin 3) (r : Fin 256) (q : Fin 512) :
    (iblk m c 0 t : Vec Ideal S1x3x256x512 .f32) (ix4 (0 : Fin 1) a r q)
      = m ((c : Thread nD τ).loc main_arg1) (ix4 (⟨t.val / 2, by have := point_lt t; omega⟩ : Fin 4) a (⟨t.val % 2 * 256 + r.val, by omega⟩ : Fin 512) q) := by
  obtain ⟨⟨h0, h1, h2, h3⟩, -⟩ := index_facts t
  refine (congrArg (V m c main_arg1) (funext fun b => Fin.ext ?_)).trans (congrFun (V_main_arg1 m c) _)
  match b with
  | ⟨0, _⟩ => show win0_0.index t 0 * 1 + 1 * 0 = t.val / 2; omega
  | ⟨1, _⟩ => show win0_0.index t 1 * 3 + 1 * a.val = a.val; omega
  | ⟨2, _⟩ => show win0_0.index t 2 * 256 + 1 * r.val = t.val % 2 * 256 + r.val; omega
  | ⟨3, _⟩ => show win0_0.index t 3 * 512 + 1 * q.val = q.val; omega

/-- The block of weights at a point: all of them. -/
theorem weights (c : Dev nD) (t : Fin cfg0.N) :
    (iblk m c 1 t : Vec Ideal S768x1024 .f32) = m ((c : Thread nD τ).loc main_arg4) := by
  obtain ⟨-, ⟨h0, h1⟩, -⟩ := index_facts t
  funext j
  refine (congrArg (V m c main_arg4) (funext fun b => Fin.ext ?_)).trans (congrFun (V_main_arg4 m c) _)
  match b with
  | ⟨0, _⟩ => show win0_1.index t 0 * 768 + 1 * (j 0).val = (j 0).val; omega
  | ⟨1, _⟩ => show win0_1.index t 1 * 1024 + 1 * (j 1).val = (j 1).val; omega

/-- The image features of a device's arguments. -/
abbrev feature (c : Dev nD) : (⟨3, ![4, 1024, 1024]⟩ : Shape).Idx → EReal :=
  Patch.feature (m ((c : Thread nD τ).loc main_arg1)) (m ((c : Thread nD τ).loc main_arg4))

/-- The product of the blocks at a point is its block of the features: patch `i` of half `r` of image `b` is patch
    `r·512 + i` of the image. -/
theorem product_feature (c : Dev nD) (t : Fin cfg0.N) (j : S1x512x1024.Idx) :
    Block.product (iblk m c 0 t) (iblk m c 1 t) j
      = feature m c (ix3 (⟨t.val / 2, by have := point_lt t; omega⟩ : Fin 4)
          (⟨t.val % 2 * 512 + (j 1).val, by have h : (j 1).val < 512 := (j 1).isLt; omega⟩ : Fin 1024) (j 2 : Fin 1024)) := by
  have hj : (j 1).val < 512 := (j 1).isLt
  have hw := weights m c t
  show Patch.strip 16 (iblk m c 0 t) (iblk m c 1 t) (j 1) (j 2) = _
  rw [hw]
  exact Patch.strip_eq_feature _ _ _ _ _ (by omega) (j 1 : Fin 512) (j 2 : Fin 1024) (fun a r q => pixels m c t a r q)

/-- What a point writes back to the embeddings is its block of the features. -/
theorem flushed_embeddings (c : Dev nD) (t : Fin cfg0.N) :
    (dats m 0 c).flushed 4 t = (win0_4.blk t).view.read (Elt Ideal) (feature m c) := by
  show (cfg0.win 4).cut (grid0.coords t) ((dats m 0 c).after 4 t) = _
  rw [after0_4, Block.embeddings]
  obtain ⟨-, -, -, -, ⟨h0, h1, h2⟩, -⟩ := index_facts t
  funext j
  have hj0 : (j 0).val < 1 := (j 0).isLt
  refine (product_feature m c t j).trans (congrArg (feature m c) (funext fun b => Fin.ext ?_))
  match b with
  | ⟨0, _⟩ => show t.val / 2 = win0_4.index t 0 * 1 + 1 * (j 0).val; omega
  | ⟨1, _⟩ => show t.val % 2 * 512 + (j 1).val = win0_4.index t 1 * 512 + 1 * (j 1).val; omega
  | ⟨2, _⟩ => show (j 2).val = win0_4.index t 2 * 1024 + 1 * (j 2).val; omega

/-- What a point writes back to the features is its block of them. -/
theorem flushed_features (c : Dev nD) (t : Fin cfg0.N) :
    (dats m 0 c).flushed 5 t = (win0_5.blk t).view.read (Elt Ideal) (feature m c) := by
  show (cfg0.win 5).cut (grid0.coords t) ((dats m 0 c).after 5 t) = _
  rw [after0_5, Block.features]
  obtain ⟨-, -, -, -, -, ⟨h0, h1, h2⟩, -⟩ := index_facts t
  funext j
  have hj0 : (j 0).val < 1 := (j 0).isLt
  refine (product_feature m c t j).trans (congrArg (feature m c) (funext fun b => Fin.ext ?_))
  match b with
  | ⟨0, _⟩ => show t.val / 2 = win0_5.index t 0 * 1 + 1 * (j 0).val; omega
  | ⟨1, _⟩ => show t.val % 2 * 512 + (j 1).val = win0_5.index t 1 * 512 + 1 * (j 1).val; omega
  | ⟨2, _⟩ => show (j 2).val = win0_5.index t 2 * 1024 + 1 * (j 2).val; omega

/-- The grid point whose block holds image `b`, half `r`. -/
abbrev point (b r : Nat) (hb : b < 4) (hr : r < 2) : Fin cfg0.N := ⟨b * 2 + r, by rw [show cfg0.N = 8 from N_0]; omega⟩

/-- Every entry of the embeddings lies in the block of one point. -/
theorem cover_embeddings (i : S4x1024x1024.Idx) :
    ∃ t : Fin cfg0.N, (cfg0.win 4).flush t = true ∧ i ∈ ((cfg0.win 4).blk t).view.set := by
  have i0 : (i 0).val < 4 := (i 0).isLt
  have i1 : (i 1).val < 1024 := (i 1).isLt
  have i2 : (i 2).val < 1024 := (i 2).isLt
  obtain ⟨p, hp⟩ : ∃ p, p = point (i 0).val ((i 1).val / 512) i0 (by omega) := ⟨_, rfl⟩
  have hv : p.val = (i 0).val * 2 + (i 1).val / 512 := congrArg Fin.val hp
  refine ⟨p, flush0_4 p, ?_⟩
  obtain ⟨-, -, -, -, ⟨h0, h1, h2⟩, -⟩ := index_facts p
  show i ∈ ((View.whole main_v2_0).slice (win0_4.rect p)).set
  rw [View.set_slice_whole, Rect.mem_set_unit]
  intro a
  match a with
  | ⟨0, _⟩ =>
    show win0_4.index p 0 * 1 ≤ (i 0).val ∧ (i 0).val < win0_4.index p 0 * 1 + 1
    omega
  | ⟨1, _⟩ =>
    show win0_4.index p 1 * 512 ≤ (i 1).val ∧ (i 1).val < win0_4.index p 1 * 512 + 512
    omega
  | ⟨2, _⟩ =>
    show win0_4.index p 2 * 1024 ≤ (i 2).val ∧ (i 2).val < win0_4.index p 2 * 1024 + 1024
    omega

/-- Every entry of the features lies in the block of one point. -/
theorem cover_features (i : S4x1024x1024.Idx) :
    ∃ t : Fin cfg0.N, (cfg0.win 5).flush t = true ∧ i ∈ ((cfg0.win 5).blk t).view.set := by
  have i0 : (i 0).val < 4 := (i 0).isLt
  have i1 : (i 1).val < 1024 := (i 1).isLt
  have i2 : (i 2).val < 1024 := (i 2).isLt
  obtain ⟨p, hp⟩ : ∃ p, p = point (i 0).val ((i 1).val / 512) i0 (by omega) := ⟨_, rfl⟩
  have hv : p.val = (i 0).val * 2 + (i 1).val / 512 := congrArg Fin.val hp
  refine ⟨p, flush0_5 p, ?_⟩
  obtain ⟨-, -, -, -, -, ⟨h0, h1, h2⟩, -⟩ := index_facts p
  show i ∈ ((View.whole main_v2_1).slice (win0_5.rect p)).set
  rw [View.set_slice_whole, Rect.mem_set_unit]
  intro a
  match a with
  | ⟨0, _⟩ =>
    show win0_5.index p 0 * 1 ≤ (i 0).val ∧ (i 0).val < win0_5.index p 0 * 1 + 1
    omega
  | ⟨1, _⟩ =>
    show win0_5.index p 1 * 512 ≤ (i 1).val ∧ (i 1).val < win0_5.index p 1 * 512 + 512
    omega
  | ⟨2, _⟩ =>
    show win0_5.index p 2 * 1024 ≤ (i 2).val ∧ (i 2).val < win0_5.index p 2 * 1024 + 1024
    omega

/-- The embeddings' array after the grid. -/
theorem final_embeddings (c : Dev nD) : (dats m 0 c).arrAt 4 cfg0.N = feature m c :=
  (dats m 0 c).arrAt_eq_of_cover 4 (feature m c) (fun t _ => flushed_embeddings m c t) cover_embeddings

/-- The features' array after the grid. -/
theorem final_features (c : Dev nD) : (dats m 0 c).arrAt 5 cfg0.N = feature m c :=
  (dats m 0 c).arrAt_eq_of_cover 5 (feature m c) (fun t _ => flushed_features m c t) cover_features

end Cert.KernelIdeal.Arrays

end
-- ==== Proof.Labels.lean ====
/- What the masked labels hold after the launch: the grid writes them with a unit axis, block (b, r) at a point, and the
   host reads the array back at the labels' own shape. -/
module

public import proofs.«01_k».proof.Proof.Arrays

@[expose] public section

noncomputable section

namespace Cert.KernelIdeal.Labels

open Cert.KernelIdeal Cert.KernelIdeal.Gen Cert.KernelIdeal.Arrays Idealize.ShloMosaic.ValueIdx Idealize.ShloMosaic.TcCoe Idealize.SL.Sem
open Idealize.ShloMosaic hiding ix1 ix2 ix3 ix4
open Idealize.ShloMosaic.Pipeline (Dat)

variable (m : (ℓ : Loc nD τ sig) → Buf (Elt Ideal) ℓ)

/-- An id, read through the host's reshape before the launch. -/
theorem ids_in (c : Dev nD) (b : Fin 4) (z : Fin 1) (l : Fin 1024) :
    (V m c main_v0 : Vec Ideal S4x1x1024 .i32) (ix3 b z l) = m ((c : Thread nD τ).loc main_arg0) (ix2 b l) := by
  have e : V m c main_v0 = shapeCast S4x1x1024 (m ((c : Thread nD τ).loc main_arg0)) shapeCasts_S4x1024_S4x1x1024 := by
    show StableHlo.after (hostOps0 (F := Ideal)) _ _ = _
    after_results
    rfl
  rw [e]
  refine shapeCast_apply _ _ _ (ix2 b l) ?_
  rw [Shape.rowMajor_val_two, Shape.rowMajor_val_three]
  show b.val * 1024 + l.val = (b.val * 1 + z.val) * 1024 + l.val
  omega

/-- A label, read through the host's reshape before the launch. -/
theorem labels_in (c : Dev nD) (b : Fin 4) (z : Fin 1) (l : Fin 1024) :
    (V m c main_v1 : Vec Ideal S4x1x1024 .i32) (ix3 b z l) = m ((c : Thread nD τ).loc main_arg2) (ix2 b l) := by
  have e : V m c main_v1 = shapeCast S4x1x1024 (m ((c : Thread nD τ).loc main_arg2)) shapeCasts_S4x1024_S4x1x1024 := by
    show StableHlo.after (hostOps0 (F := Ideal)) _ _ = _
    after_results
    rfl
  rw [e]
  refine shapeCast_apply _ _ _ (ix2 b l) ?_
  rw [Shape.rowMajor_val_two, Shape.rowMajor_val_three]
  show b.val * 1024 + l.val = (b.val * 1 + z.val) * 1024 + l.val
  omega

/-- The masked labels of a device's arguments, at the labels' own shape. -/
def masked (c : Dev nD) : S4x1024.Idx → BitVec 32 := fun i =>
  Block.kept (m ((c : Thread nD τ).loc main_arg0) i) (m ((c : Thread nD τ).loc main_arg2) i)

/-- The masked labels with the unit axis that the grid writes them at. -/
abbrev wide (c : Dev nD) : S4x1x1024.Idx → BitVec 32 := fun y => masked m c (ix2 (y 0 : Fin 4) (y 2 : Fin 1024))

/-- The block of ids at a point. -/
theorem ids_block (c : Dev nD) (t : Fin cfg0.N) (j : S1x1x512.Idx) :
    (iblk m c 2 t : Vec Ideal S1x1x512 .i32) j
      = m ((c : Thread nD τ).loc main_arg0) (ix2 (⟨t.val / 2, by have := point_lt t; omega⟩ : Fin 4)
          (⟨t.val % 2 * 512 + (j 2).val, by have h : (j 2).val < 512 := (j 2).isLt; omega⟩ : Fin 1024)) := by
  obtain ⟨-, -, ⟨h0, h1, h2⟩, -⟩ := index_facts t
  have j0 : (j 0).val < 1 := (j 0).isLt
  have j1 : (j 1).val < 1 := (j 1).isLt
  refine (congrArg (V m c main_v0) (funext fun b => Fin.ext ?_)).trans (ids_in m c _ (0 : Fin 1) _)
  match b with
  | ⟨0, _⟩ => show win0_2.index t 0 * 1 + 1 * (j 0).val = t.val / 2; omega
  | ⟨1, _⟩ => show win0_2.index t 1 * 1 + 1 * (j 1).val = 0; omega
  | ⟨2, _⟩ => show win0_2.index t 2 * 512 + 1 * (j 2).val = t.val % 2 * 512 + (j 2).val; omega

/-- The block of labels at a point. -/
theorem labels_block (c : Dev nD) (t : Fin cfg0.N) (j : S1x1x512.Idx) :
    (iblk m c 3 t : Vec Ideal S1x1x512 .i32) j
      = m ((c : Thread nD τ).loc main_arg2) (ix2 (⟨t.val / 2, by have := point_lt t; omega⟩ : Fin 4)
          (⟨t.val % 2 * 512 + (j 2).val, by have h : (j 2).val < 512 := (j 2).isLt; omega⟩ : Fin 1024)) := by
  obtain ⟨-, -, -, ⟨h0, h1, h2⟩, -⟩ := index_facts t
  have j0 : (j 0).val < 1 := (j 0).isLt
  have j1 : (j 1).val < 1 := (j 1).isLt
  refine (congrArg (V m c main_v1) (funext fun b => Fin.ext ?_)).trans (labels_in m c _ (0 : Fin 1) _)
  match b with
  | ⟨0, _⟩ => show win0_3.index t 0 * 1 + 1 * (j 0).val = t.val / 2; omega
  | ⟨1, _⟩ => show win0_3.index t 1 * 1 + 1 * (j 1).val = 0; omega
  | ⟨2, _⟩ => show win0_3.index t 2 * 512 + 1 * (j 2).val = t.val % 2 * 512 + (j 2).val; omega

/-- What a point writes back to the labels is its block of them. -/
theorem flushed_labels (c : Dev nD) (t : Fin cfg0.N) :
    (dats m 0 c).flushed 6 t = (win0_6.blk t).view.read (Elt Ideal) (wide m c) := by
  show (cfg0.win 6).cut (grid0.coords t) ((dats m 0 c).after 6 t) = _
  rw [after0_6, Block.labels]
  obtain ⟨-, -, -, -, -, -, ⟨h0, h1, h2⟩⟩ := index_facts t
  funext j
  have j0 : (j 0).val < 1 := (j 0).isLt
  refine (congrArg₂ Block.kept (ids_block m c t j) (labels_block m c t j)).trans ?_
  show masked m c _ = masked m c _
  refine congrArg (masked m c) (funext fun b => Fin.ext ?_)
  match b with
  | ⟨0, _⟩ => show t.val / 2 = win0_6.index t 0 * 1 + 1 * (j 0).val; omega
  | ⟨1, _⟩ => show t.val % 2 * 512 + (j 2).val = win0_6.index t 2 * 512 + 1 * (j 2).val; omega

/-- Every entry of the labels lies in the block of one point. -/
theorem cover_labels (i : S4x1x1024.Idx) :
    ∃ t : Fin cfg0.N, (cfg0.win 6).flush t = true ∧ i ∈ ((cfg0.win 6).blk t).view.set := by
  have i0 : (i 0).val < 4 := (i 0).isLt
  have i1 : (i 1).val < 1 := (i 1).isLt
  have i2 : (i 2).val < 1024 := (i 2).isLt
  obtain ⟨p, hp⟩ : ∃ p, p = point (i 0).val ((i 2).val / 512) i0 (by omega) := ⟨_, rfl⟩
  have hv : p.val = (i 0).val * 2 + (i 2).val / 512 := congrArg Fin.val hp
  refine ⟨p, flush0_6 p, ?_⟩
  obtain ⟨-, -, -, -, -, -, ⟨h0, h1, h2⟩⟩ := index_facts p
  show i ∈ ((View.whole main_v2_2).slice (win0_6.rect p)).set
  rw [View.set_slice_whole, Rect.mem_set_unit]
  intro a
  match a with
  | ⟨0, _⟩ =>
    show win0_6.index p 0 * 1 ≤ (i 0).val ∧ (i 0).val < win0_6.index p 0 * 1 + 1
    omega
  | ⟨1, _⟩ =>
    show win0_6.index p 1 * 1 ≤ (i 1).val ∧ (i 1).val < win0_6.index p 1 * 1 + 1
    omega
  | ⟨2, _⟩ =>
    show win0_6.index p 2 * 512 ≤ (i 2).val ∧ (i 2).val < win0_6.index p 2 * 512 + 512
    omega

/-- The labels' array after the grid. -/
theorem final_labels (c : Dev nD) : (dats m 0 c).arrAt 6 cfg0.N = wide m c :=
  (dats m 0 c).arrAt_eq_of_cover 6 (wide m c) (fun t _ => flushed_labels m c t) cover_labels

theorem arr_injective : Function.Injective (Pipeline.arrRef spec0) := by decide

/-- The host's reshape after the launch hands the labels back at their own shape. -/
theorem labels_out (c : Dev nD) : Pipeline.afterTail₀ cfgs (dats m) 0 (V0 m) [hostOps1] c main_v3 = masked m c := by
  have e : Pipeline.afterTail₀ cfgs (dats m) 0 (V0 m) [hostOps1] c main_v3
      = shapeCast S4x1024 (wide m c) shapeCasts_S4x1x1024_S4x1024 := by
    unfold Pipeline.afterTail₀
    show StableHlo.after (hostOps1 (F := Ideal)) _ _ = _
    after_results
    have h := Pipeline.withArrays_arr (τ := τ) spec0 arr_injective c (V0 m c) (fun w => (dats m 0 c).arrAt w cfg0.N) 6
    exact congrArg (fun x : S4x1x1024.Idx → BitVec 32 => shapeCast S4x1024 x shapeCasts_S4x1x1024_S4x1024) (h.trans (final_labels m c))
  rw [e]
  funext i
  refine (shapeCast_apply (wide m c) _ i (ix3 (i 0 : Fin 4) (0 : Fin 1) (i 1 : Fin 1024)) ?_).trans (congrArg (masked m c) (funext fun a => ?_))
  · rw [Shape.rowMajor_val_two, Shape.rowMajor_val_three]
    show ((i 0).val * 1 + 0) * 1024 + (i 1).val = (i 0).val * 1024 + (i 1).val
    omega
  · match a with
    | ⟨0, _⟩ => rfl
    | ⟨1, _⟩ => rfl

/-- The kernel's run: it ends with the features in the first and third results, the masked labels in the second, and the
    arguments as they were. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = feature m c
      ∧ r.2.mem ((c.tc : Thread nD τ).loc main_v3) = masked m c
      ∧ r.2.mem ((c.tc : Thread nD τ).loc main_v2_1) = feature m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 4).trans (final_embeddings m c),
     ((h c).2 main_v3 (Pipeline.mem_restRefs_of main_v3 (by decide) (by decide))).trans (labels_out m c),
     ((h c).1 5).trans (final_features m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).1 1).trans (((dats m 0 c).arrAt_in 1 rfl _).trans ((A_eq m c 1).trans (V_main_arg4 m c)))⟩) (run_main m ρ)

end Cert.KernelIdeal.Labels

end
-- ==== Proof.RefFeatures.lean ====
/- What the reference's patch embedding holds: the patches are cut out of the image by a reshape to rank six, a transpose
   and a reshape, and multiplied with the weights. Each entry is the plain sum of Patch. -/
module

public import proofs.«01_k».proof.Proof.Gen.ReferenceIdeal.Run
public import proofs.«01_k».proof.Proof.Patch
public import Idealize.ShloMosaic.PureOps.Ideal.Laws
public import Idealize.ShloMosaic.Lib.Pointwise.Contract
public import Idealize.ShloMosaic.Lib.Pipeline.Value
public import Idealize.ShloMosaic.Lib.ValueIdxRank6

@[expose] public section

noncomputable section

namespace Cert.ReferenceIdeal.Features

open Cert.ReferenceIdeal Cert.ReferenceIdeal.Gen Idealize.ShloMosaic.ValueIdx
open Idealize.ShloMosaic hiding ix2 ix3 ix4 ix6

/-- The image cut into patches, a row per patch. -/
def patches (x : FVec Ideal S4x3x512x512 .f32) : FVec Ideal S4x1024x768 .f32 :=
  shapeCast _ (transpose S4x32x32x3x16x16 [0, 2, 4, 1, 3, 5] (shapeCast _ x shapeCasts_S4x3x512x512_S4x3x32x16x32x16)
    transposes_S4x3x32x16x32x16_S4x32x32x3x16x16_0_2_4_1_3_5) shapeCasts_S4x32x32x3x16x16_S4x1024x768

/-- Entry (b, n, k) of the patches is pixel `k` of patch `n` of image `b`. -/
theorem patches_apply (x : FVec Ideal S4x3x512x512 .f32) (b : Fin 4) (n : Fin 1024) (k : Fin 768) :
    patches x (ix3 b n k) = x (ix4 b (Patch.chan k) (Patch.prow 32 n k) (Patch.pcol n.val k)) := by
  unfold patches
  have hn := n.isLt
  have hk := k.isLt
  refine (shapeCast_apply _ _ (ix3 b n k) (ix6 b (⟨n.val / 32, by omega⟩ : Fin 32) (⟨n.val % 32, by omega⟩ : Fin 32) (Patch.chan k)
      (⟨k.val % 256 / 16, by omega⟩ : Fin 16) (⟨k.val % 16, by omega⟩ : Fin 16)) (by
    rw [Shape.rowMajor_val_six, Shape.rowMajor_val_three]
    show ((((b.val * 32 + n.val / 32) * 32 + n.val % 32) * 3 + k.val / 256) * 16 + k.val % 256 / 16) * 16 + k.val % 16
      = (b.val * 1024 + n.val) * 768 + k.val
    omega)).trans ?_
  refine (transpose_apply _ _ _ _ (ix6 b (Patch.chan k) (⟨n.val / 32, by omega⟩ : Fin 32) (⟨k.val % 256 / 16, by omega⟩ : Fin 16)
      (⟨n.val % 32, by omega⟩ : Fin 32) (⟨k.val % 16, by omega⟩ : Fin 16)) (fun a => by
    match a with | ⟨0, _⟩ => rfl | ⟨1, _⟩ => rfl | ⟨2, _⟩ => rfl | ⟨3, _⟩ => rfl | ⟨4, _⟩ => rfl | ⟨5, _⟩ => rfl)).trans ?_
  exact shapeCast_apply _ _ _ _ (by
    rw [Shape.rowMajor_val_six, Shape.rowMajor_val_four]
    show ((b.val * 3 + k.val / 256) * 512 + (n.val / 32 * 16 + k.val % 256 / 16)) * 512 + (n.val % 32 * 16 + k.val % 16)
      = ((((b.val * 3 + k.val / 256) * 32 + n.val / 32) * 16 + k.val % 256 / 16) * 32 + n.val % 32) * 16 + k.val % 16
    omega)

/-- The reference's features are the plain sums. -/
theorem features (x : FVec Ideal S4x3x512x512 .f32) (w : FVec Ideal S768x1024 .f32) :
    Host.dotGeneral dot_S4x1024x768_S768x1024_S4x1024x1024_2_0_01_1_n_n none (patches x) w = Patch.feature x w := by
  funext y
  show FloatOps.dotGeneral dot_S4x1024x768_S768x1024_S4x1024x1024_2_0_01_1_n_n none _ (patches x) w y = _
  rw [Ideal.dotGeneral_apply, DotDims.sum_contr₁ dot_S4x1024x768_S768x1024_S4x1024x1024_2_0_01_1_n_n (a := (2 : Fin 3)) rfl (K := 768) rfl]
  refine Finset.sum_congr rfl fun k _ => ?_
  refine congrArg₂ (· * ·) ((congrArg (patches x) ?_).trans (patches_apply x (y 0 : Fin 4) (y 1 : Fin 1024) k)) (congrArg w ?_)
  · funext a; match a with | ⟨0, _⟩ => rfl | ⟨1, _⟩ => rfl | ⟨2, _⟩ => rfl
  · funext a; match a with | ⟨0, _⟩ => rfl | ⟨1, _⟩ => rfl

end Cert.ReferenceIdeal.Features

end
-- ==== Proof.Splice.lean ====
/- What the reference's spliced embeddings hold at an image token whose number among its sequence's image tokens is its own
   position: the image features of that position. The reference counts the image tokens up to each position, takes the
   count less one, clamped to the patches, as the patch number, gathers that patch's features and selects them where the
   token is an image token. -/
module

public import proofs.«01_k».proof.Proof.RefFeatures
public import Idealize.ShloMosaic.Lib.ReduceAll
public import Idealize.ShloMosaic.Lib.StableHlo.Predicate

@[expose] public section

noncomputable section

namespace Cert.ReferenceIdeal.Splice

open Cert.ReferenceIdeal Cert.ReferenceIdeal.Gen Idealize.ShloMosaic.ValueIdx Idealize.ShloMosaic.TcCoe
open Idealize.ShloMosaic hiding ix2 ix3 ix4 ix6

/-- Which tokens are image tokens. -/
def mask (ids : IVec S4x1024 32) : IVec S4x1024 1 :=
  cmpi .eq ids (broadcastInDim S4x1024 ![] bcast_S_S4x1024 (constantI S_ 32 0#32))

/-- How many image tokens a sequence has up to and including each position. -/
def count (ids : IVec S4x1024 32) : IVec S4x1024 32 :=
  Host.reduceWindow IntOp.addi ![1, 1024] ![1, 1] ![0, 1023] ![0, 0] (extui 32 (mask ids) natLt_1_32)
    (broadcastInDim S_ ![] bcast_S_S_ (constantI S_ 32 0#32)) reduceWindows_S4x1024_S4x1024_w1s1p0_0_w1024s1p1023_0 h_S_

/-- The patch number of each position: the count less one, clamped to the patches. -/
def number (ids : IVec S4x1024 32) : IVec S4x1024 32 :=
  minsi (broadcastInDim S4x1024 ![] bcast_S_S4x1024 (id (constantI S_ 32 1023#32)))
    (maxsi (broadcastInDim S4x1024 ![] bcast_S_S4x1024 (id (constantI S_ 32 0#32)))
      (subi (count ids) (broadcastInDim S4x1024 ![] bcast_S_S4x1024 (constantI S_ 32 1#32))))

/-- The patch numbers as the gather takes them: a negative one would count from the end. -/
def taken (ids : IVec S4x1024 32) : IVec S4x1024x1 32 :=
  select (cmpi .slt (broadcastInDim S4x1024x1 ![0, 1] bcast_S4x1024_S4x1024x1_0_1 (number ids)) (broadcastInDim S4x1024x1 ![] bcast_S_S4x1024x1 (constantI S_ 32 0#32)))
    (addi (broadcastInDim S4x1024x1 ![0, 1] bcast_S4x1024_S4x1024x1_0_1 (number ids)) (broadcastInDim S4x1024x1 ![] bcast_S_S4x1024x1 (constantI S_ 32 1024#32)))
    (broadcastInDim S4x1024x1 ![0, 1] bcast_S4x1024_S4x1024x1_0_1 (number ids))

/-- Which patch numbers the gather takes are in range. -/
def inRange (ids : IVec S4x1024 32) : IVec S4x1024 1 :=
  Host.reduce IntOp.andi (andi (cmpi .sge (taken ids) (broadcastInDim S4x1024x1 ![] bcast_S_S4x1024x1 (constantI S_ 32 0#32)))
      (cmpi .sle (taken ids) (broadcastInDim S4x1024x1 ![0, 1, 2] bcast_S1x1x1_S4x1024x1_0_1_2 (broadcastInDim S1x1x1 ![2] bcast_S1_S1x1x1_2 (constantI S1 32 1023#32)))))
    (constantI S_ 1 1#1) reducesTo_S4x1024x1_S4x1024_d2 h_S_

/-- The features spliced in: gathered where the patch number is in range. -/
def gathered (ids : IVec S4x1024 32) (f : FVec Ideal S4x1024x1024 .f32) : FVec Ideal S4x1024x1024 .f32 :=
  select (broadcastInDim S4x1024x1024 ![0, 1] bcast_S4x1024_S4x1024x1024_0_1 (inRange ids))
    (Host.gather gather_S4x1024x1024_S4x1024x1_S4x1024x1024_2_1_0_0_1_2_111024 f (taken ids))
    (broadcastInDim S4x1024x1024 ![] bcast_S_S4x1024x1024 (constant S_ .f32 0x7FC00000#32))

/-- The first result is those features where the token is an image token, and something of the table elsewhere. -/
theorem result_eq (m : (ℓ : Loc nD τ sig) → Buf (Elt Ideal) ℓ) (c : Dev nD) :
    ∃ text : FVec Ideal S4x1024x1024 .f32, Value.res_out0 m c
      = select (broadcastInDim S4x1024x1024 ![0, 1, 2] bcast_S4x1024x1_S4x1024x1024_0_1_2 (broadcastInDim S4x1024x1 ![0, 1] bcast_S4x1024_S4x1024x1_0_1 (mask (m ((c.tc : Thread nD τ).loc main_arg0)))))
          (gathered (m ((c.tc : Thread nD τ).loc main_arg0))
            (Host.dotGeneral (φ₂ := .f32) dot_S4x1024x768_S768x1024_S4x1024x1024_2_0_01_1_n_n none (Features.patches (m ((c.tc : Thread nD τ).loc main_arg1))) (m ((c.tc : Thread nD τ).loc main_arg4))))
          text :=
  ⟨_, rfl⟩

/-! ## The words -/

/-- The patch number of a count less one. -/
abbrev clamp (v : BitVec 32) : BitVec 32 := IntOp.minsi 1023#32 (IntOp.maxsi 0#32 v)

theorem toInt_zero : (0#32 : BitVec 32).toInt = 0 := by decide
theorem toInt_last : (1023#32 : BitVec 32).toInt = 1023 := by decide

/-- A clamped number is a patch's. -/
theorem clamp_range (v : BitVec 32) : 0 ≤ (clamp v).toInt ∧ (clamp v).toInt ≤ 1023 := by
  have h0 := toInt_zero
  have h1 := toInt_last
  unfold clamp IntOp.minsi IntOp.maxsi
  by_cases hv : v.slt 0#32 = true
  · rw [if_pos hv]
    have : ¬ (1023#32 : BitVec 32).slt 0#32 = true := by decide
    rw [if_neg this]
    omega
  · rw [if_neg hv]
    have hv' : ¬ v.toInt < 0 := fun h => hv (decide_eq_true (by rw [h0]; exact h))
    by_cases hw : (1023#32 : BitVec 32).slt v = true
    · rw [if_pos hw]; omega
    · rw [if_neg hw]
      have hw' : ¬ 1023 < v.toInt := fun h => hw (decide_eq_true (by rw [h1]; exact h))
      omega

/-- A patch's own number stays. -/
theorem clamp_ofNat : ∀ n : Fin 1024, clamp (BitVec.ofNat 32 n.val) = BitVec.ofNat 32 n.val := by decide +kernel
theorem toNat_ofNat : ∀ n : Fin 1024, (BitVec.ofNat 32 n.val).toInt.toNat = n.val := by decide +kernel

/-- A number that is not negative is taken as it is. -/
theorem wrap_of_nonneg (p q : BitVec 32) (h : 0 ≤ p.toInt) : Scalar.select (IntOp.cmpi .slt p 0#32) q p = p := by
  have e : IntOp.cmpi .slt p 0#32 = 0#1 := congrArg BitVec.ofBool (decide_eq_false (by rw [toInt_zero]; omega))
  rw [e]
  rfl

/-! ## The arrays at an index -/

/-- The patch number at a position. -/
theorem number_apply (ids : IVec S4x1024 32) (i : S4x1024.Idx) : number ids i = clamp (count ids i - 1#32) := by
  unfold number
  generalize count ids = n
  rfl

/-- Numbers that are not negative are taken as they are, with a trailing unit axis. -/
theorem wrap_apply (p : IVec S4x1024 32) (hp : ∀ i, 0 ≤ (p i).toInt) (j : S4x1024x1.Idx) :
    select (cmpi .slt (broadcastInDim S4x1024x1 ![0, 1] bcast_S4x1024_S4x1024x1_0_1 p) (broadcastInDim S4x1024x1 ![] bcast_S_S4x1024x1 (constantI S_ 32 0#32)))
      (addi (broadcastInDim S4x1024x1 ![0, 1] bcast_S4x1024_S4x1024x1_0_1 p) (broadcastInDim S4x1024x1 ![] bcast_S_S4x1024x1 (constantI S_ 32 1024#32)))
      (broadcastInDim S4x1024x1 ![0, 1] bcast_S4x1024_S4x1024x1_0_1 p) j = p (ix2 (j 0 : Fin 4) (j 1 : Fin 1024)) := by
  have e : broadcastInDim S4x1024x1 ![0, 1] bcast_S4x1024_S4x1024x1_0_1 p j = p (ix2 (j 0 : Fin 4) (j 1 : Fin 1024)) :=
    broadcastInDim_apply _ _ p j (ix2 (j 0 : Fin 4) (j 1 : Fin 1024)) (fun a => by
      match a with | ⟨0, _⟩ => rfl | ⟨1, _⟩ => rfl)
  exact (wrap_of_nonneg _ _ (by rw [e]; exact hp _)).trans e

/-- What the gather takes at a position is the clamped number. -/
theorem taken_apply (ids : IVec S4x1024 32) (j : S4x1024x1.Idx) :
    taken ids j = clamp (count ids (ix2 (j 0 : Fin 4) (j 1 : Fin 1024)) - 1#32) :=
  (wrap_apply (number ids) (fun i => by rw [number_apply]; exact (clamp_range _).1) j).trans (number_apply ids _)

/-- Every number taken is in range. -/
theorem inRange_apply (ids : IVec S4x1024 32) (i : S4x1024.Idx) : inRange ids i = 1#1 := by
  refine Host.reduce_andi_one _ _ _ _ i rfl fun j => ?_
  show IntOp.andi (IntOp.cmpi .sge (taken ids j) 0#32) (IntOp.cmpi .sle (taken ids j) 1023#32) = 1#1
  rw [taken_apply]
  obtain ⟨h0, h1⟩ := clamp_range (count ids (ix2 (j 0 : Fin 4) (j 1 : Fin 1024)) - 1#32)
  have e0 : IntOp.cmpi .sge (clamp (count ids (ix2 (j 0 : Fin 4) (j 1 : Fin 1024)) - 1#32)) 0#32 = 1#1 :=
    congrArg BitVec.ofBool (decide_eq_true (by rw [toInt_zero]; exact h0))
  have e1 : IntOp.cmpi .sle (clamp (count ids (ix2 (j 0 : Fin 4) (j 1 : Fin 1024)) - 1#32)) 1023#32 = 1#1 :=
    congrArg BitVec.ofBool (decide_eq_true (by rw [toInt_last]; exact h1))
  rw [e0, e1]
  rfl

/-- The gather's dimension numbers: the image is a batch axis, the patch is indexed, the features are a slice. -/
abbrev dims : GatherDims S4x1024x1024 S4x1024x1 S4x1024x1024 := gather_S4x1024x1024_S4x1024x1_S4x1024x1024_2_1_0_0_1_2_111024

/-- The gather reads the same image. -/
theorem gather_image (idx : IVec S4x1024x1 32) (y : S4x1024x1024.Idx) :
    GatherDims.start dims y idx 0 + GatherDims.batchCoord dims y 0 + GatherDims.offCoord dims y 0 = (y 0).val := by
  rw [GatherDims.start_batching _ _ _ _ (List.mem_singleton.mpr rfl),
    GatherDims.offCoord_eq_zero _ _ _ (fun h => ((GatherDims.mem_sKept _ _).mp h).2 (List.mem_singleton.mpr rfl))]
  rw [Nat.zero_add, Nat.add_zero]
  unfold GatherDims.batchCoord
  rw [dif_pos (show (0 : Fin 3) ∈ GatherDims.operandBatchingDims dims from List.mem_singleton.mpr rfl)]
  rfl

/-- The gather reads the patch that is taken, clamped to the patches. -/
theorem gather_patch (idx : IVec S4x1024x1 32) (y : S4x1024x1024.Idx) :
    GatherDims.start dims y idx 1 + GatherDims.batchCoord dims y 1 + GatherDims.offCoord dims y 1
      = min (idx (ix3 (y 0 : Fin 4) (y 1 : Fin 1024) (0 : Fin 1))).toInt.toNat 1023 := by
  have h1 : GatherDims.batchCoord dims y 1 = 0 := GatherDims.batchCoord_eq_zero _ _ _ (by decide)
  have h2 : GatherDims.offCoord dims y 1 = 0 :=
    GatherDims.offCoord_eq_zero _ _ _ (fun h => ((GatherDims.mem_sKept _ _).mp h).1 (List.mem_singleton.mpr rfl))
  have h3 : GatherDims.start dims y idx 1 = min (idx (ix3 (y 0 : Fin 4) (y 1 : Fin 1024) (0 : Fin 1))).toInt.toNat 1023 := by
    unfold GatherDims.start
    rw [dif_pos (show (1 : Fin 3) ∈ GatherDims.startIndexMap dims from List.mem_singleton.mpr rfl)]
    refine congrArg (fun q : S4x1024x1.Idx => min (idx q).toInt.toNat 1023) (funext fun b => Fin.ext ?_)
    match b with
    | ⟨0, _⟩ => rfl
    | ⟨1, _⟩ => rfl
    | ⟨2, _⟩ => rfl
  omega

/-- The gather reads the same feature. -/
theorem gather_feature (idx : IVec S4x1024x1 32) (y : S4x1024x1024.Idx) :
    GatherDims.start dims y idx 2 + GatherDims.batchCoord dims y 2 + GatherDims.offCoord dims y 2 = (y 2).val := by
  have h1 : GatherDims.batchCoord dims y 2 = 0 := GatherDims.batchCoord_eq_zero _ _ _ (by decide)
  have h2 : GatherDims.start dims y idx 2 = 0 := by
    unfold GatherDims.start
    rw [dif_neg (by decide)]
  have h3 : GatherDims.offCoord dims y 2 = (y 2).val := by
    unfold GatherDims.offCoord
    rw [dif_pos (by decide)]
    rfl
  omega

/-- The gather at an index: the features of the same image at the patch taken. -/
theorem gather_apply (f : FVec Ideal S4x1024x1024 .f32) (idx : IVec S4x1024x1 32) (y : S4x1024x1024.Idx) :
    Host.gather dims f idx y
      = f (ix3 (y 0 : Fin 4) (⟨min (idx (ix3 (y 0 : Fin 4) (y 1 : Fin 1024) (0 : Fin 1))).toInt.toNat 1023, by omega⟩ : Fin 1024) (y 2 : Fin 1024)) := by
  unfold Host.gather
  refine congrArg f (funext fun a => Fin.ext ?_)
  match a with
  | ⟨0, _⟩ => exact gather_image idx y
  | ⟨1, _⟩ => exact gather_patch idx y
  | ⟨2, _⟩ => exact gather_feature idx y

/-- THE SPLICE: at an image token that is number `l` of its sequence's image tokens and stands at position `l`, the first
    result is the features of position `l`. -/
theorem spliced (m : (ℓ : Loc nD τ sig) → Buf (Elt Ideal) ℓ) (c : Dev nD) (y : S4x1024x1024.Idx)
    (hm : mask (m ((c.tc : Thread nD τ).loc main_arg0)) (ix2 (y 0 : Fin 4) (y 1 : Fin 1024)) = 1#1)
    (hc : count (m ((c.tc : Thread nD τ).loc main_arg0)) (ix2 (y 0 : Fin 4) (y 1 : Fin 1024)) - 1#32 = BitVec.ofNat 32 (y 1).val) :
    Value.res_out0 m c y
      = Patch.feature (m ((c.tc : Thread nD τ).loc main_arg1)) (m ((c.tc : Thread nD τ).loc main_arg4)) y := by
  obtain ⟨text, e⟩ := result_eq m c
  generalize hids : m ((c.tc : Thread nD τ).loc main_arg0) = ids at hm hc e
  have em : broadcastInDim S4x1024x1024 ![0, 1, 2] bcast_S4x1024x1_S4x1024x1024_0_1_2 (broadcastInDim S4x1024x1 ![0, 1] bcast_S4x1024_S4x1024x1_0_1 (mask ids)) y = 1#1 :=
    (broadcastInDim_apply _ _ _ y (ix3 (y 0 : Fin 4) (y 1 : Fin 1024) (0 : Fin 1)) (fun a => by
      match a with | ⟨0, _⟩ => rfl | ⟨1, _⟩ => rfl | ⟨2, _⟩ => rfl)).trans
      ((broadcastInDim_apply _ _ (mask ids) _ (ix2 (y 0 : Fin 4) (y 1 : Fin 1024)) (fun a => by
        match a with | ⟨0, _⟩ => rfl | ⟨1, _⟩ => rfl)).trans hm)
  have er : broadcastInDim S4x1024x1024 ![0, 1] bcast_S4x1024_S4x1024x1024_0_1 (inRange ids) y = 1#1 :=
    (broadcastInDim_apply _ _ (inRange ids) y (ix2 (y 0 : Fin 4) (y 1 : Fin 1024)) (fun a => by
      match a with | ⟨0, _⟩ => rfl | ⟨1, _⟩ => rfl)).trans (inRange_apply ids _)
  rw [Features.features] at e
  refine (congrFun e y).trans ?_
  generalize Patch.feature (m ((c.tc : Thread nD τ).loc main_arg1)) (m ((c.tc : Thread nD τ).loc main_arg4)) = f
  show Scalar.select _ (gathered ids f y) (text y) = _
  rw [em, select_one]
  show Scalar.select _ (Host.gather gather_S4x1024x1024_S4x1024x1_S4x1024x1024_2_1_0_0_1_2_111024 f (taken ids) y) _ = _
  rw [er, select_one, gather_apply]
  refine congrArg f (funext fun a => Fin.ext ?_)
  match a with
  | ⟨0, _⟩ => rfl
  | ⟨1, _⟩ =>
    show min (taken ids (ix3 (y 0 : Fin 4) (y 1 : Fin 1024) (0 : Fin 1))).toInt.toNat 1023 = (y 1).val
    have hy : (y 1).val < 1024 := (y 1).isLt
    have et : taken ids (ix3 (y 0 : Fin 4) (y 1 : Fin 1024) (0 : Fin 1)) = BitVec.ofNat 32 (y 1).val :=
      (taken_apply ids _).trans ((congrArg clamp hc).trans (clamp_ofNat (y 1 : Fin 1024)))
    rw [et, toNat_ofNat (y 1 : Fin 1024)]
    omega
  | ⟨2, _⟩ => rfl

end Cert.ReferenceIdeal.Splice

end
-- ==== Proof.Count.lean ====
/- The count of image tokens where every token is one: at position `l` it is `l + 1`. -/
module

public import proofs.«01_k».proof.Proof.Splice
public import Idealize.ShloMosaic.Lib.Routing.Ops

@[expose] public section

noncomputable section

namespace Cert.ReferenceIdeal.Count

open Cert.ReferenceIdeal Cert.ReferenceIdeal.Gen Idealize.ShloMosaic.ValueIdx
open Idealize.ShloMosaic hiding ix2 ix3 ix4 ix6

/-- A window of the padded row of ones that ends at position `l` holds `l + 1` of them. -/
theorem ones_sum (l : Nat) (hl : l ≤ 1023) :
    ((List.range 1024).map fun n => if 1023 ≤ l + n then 1 else 0).sum = l + 1 := by
  have h := Routing.sum_window (fun _ => 1) 1023 l hl
  rw [List.map_const', List.sum_replicate, List.length_range] at h
  exact h.trans (by rw [smul_eq_mul, Nat.mul_one])

/-- A running sum along the rows of an array of ones. -/
theorem running_ones (x : IVec S4x1024 32) (hx : ∀ i, x i = 1#32) (b : Fin 4) (l : Fin 1024) :
    Host.reduceWindow IntOp.addi ![1, 1024] ![1, 1] ![0, 1023] ![0, 0] x
      (broadcastInDim S_ ![] bcast_S_S_ (constantI S_ 32 0#32)) reduceWindows_S4x1024_S4x1024_w1s1p0_0_w1024s1p1023_0 h_S_ (ix2 b l)
      = BitVec.ofNat 32 (l.val + 1) := by
  have hl := l.isLt
  have hb := b.isLt
  unfold Host.reduceWindow
  refine (Routing.foldl_addi_ofNat _ _ (fun n => if 1023 ≤ l.val + n.val then 1 else 0) (fun n _ => ?_) _ 0 rfl).trans ?_
  · have hn0 : ((Routing.shape2 1 1024).rowMajor.symm n 0).val = 0 := by rw [Routing.symm2]; rfl
    have hn1 : ((Routing.shape2 1 1024).rowMajor.symm n 1).val = n.val := by rw [Routing.symm2]; rfl
    have hn : n.val < 1024 := (n.cast (Routing.numel2 1024)).isLt
    dsimp only
    split
    · next hin =>
      have h1 := hin 1
      change 1023 ≤ l.val * 1 + ((Routing.shape2 1 1024).rowMajor.symm n 1).val
        ∧ l.val * 1 + ((Routing.shape2 1 1024).rowMajor.symm n 1).val - 1023 < 1024 at h1
      rw [hn1] at h1
      rw [if_pos (by omega)]
      exact hx _
    · next hin =>
      rw [if_neg fun hle => hin fun a => by
        match a with
        | ⟨0, _⟩ =>
          show 0 ≤ b.val * 1 + ((Routing.shape2 1 1024).rowMajor.symm n 0).val
            ∧ b.val * 1 + ((Routing.shape2 1 1024).rowMajor.symm n 0).val - 0 < 4
          rw [hn0]
          omega
        | ⟨1, _⟩ =>
          show 1023 ≤ l.val * 1 + ((Routing.shape2 1 1024).rowMajor.symm n 1).val
            ∧ l.val * 1 + ((Routing.shape2 1 1024).rowMajor.symm n 1).val - 1023 < 1024
          rw [hn1]
          omega]
      rfl
  · rw [Nat.zero_add, Routing.map_finRange_val _ (fun n => if 1023 ≤ l.val + n then 1 else 0)]
    exact congrArg (BitVec.ofNat 32) ((congrArg (fun M => ((List.range M).map fun n => if 1023 ≤ l.val + n then 1 else 0).sum)
      (Routing.numel2 1024)).trans (ones_sum l.val (by omega)))

/-- Where every token is an image token, each is number `l` of them at its position `l`. -/
theorem count_all (ids : IVec S4x1024 32) (h : ∀ i, Splice.mask ids i = 1#1) (b : Fin 4) (l : Fin 1024) :
    Splice.count ids (ix2 b l) - 1#32 = BitVec.ofNat 32 l.val := by
  have e : Splice.count ids (ix2 b l) = BitVec.ofNat 32 (l.val + 1) :=
    running_ones (extui 32 (Splice.mask ids) natLt_1_32) (fun i => by
      show (Splice.mask ids i).setWidth 32 = 1#32
      rw [h i]
      rfl) b l
  rw [e, BitVec.ofNat_add]
  exact BitVec.add_sub_cancel _ _

end Cert.ReferenceIdeal.Count

end
-- ==== Proof.Results.lean ====
/- What the reference's run leaves in its results: the plain sums in the third, the masked labels in the second, and in the
   first the text rows with the image tokens' rows spliced in, which are the plain sums where each image token stands in
   its place. -/
module

public import proofs.«01_k».proof.Proof.Block
public import proofs.«01_k».proof.Proof.Count
public import Idealize.ShloMosaic.Lib.Quiescent

@[expose] public section

noncomputable section

namespace Cert.ReferenceIdeal.Results

open Cert.ReferenceIdeal Idealize.ShloMosaic.ValueIdx Idealize.SL.Sem
open Idealize.ShloMosaic hiding ix2 ix3 ix4 ix6

variable (m : (ℓ : Loc nD τ sig) → Buf (Elt Ideal) ℓ)

/-- The features of the reference's images: the plain sums over each patch. -/
abbrev feature (c : Dev nD) : FVec Ideal S4x1024x1024 .f32 :=
  Patch.feature (m ((c.tc : Thread nD τ).loc main_arg1)) (m ((c.tc : Thread nD τ).loc main_arg4))

/-- The masked labels. -/
abbrev masked (c : Dev nD) : IVec S4x1024 32 := fun i =>
  Cert.KernelIdeal.Block.kept (m ((c.tc : Thread nD τ).loc main_arg0) i) (m ((c.tc : Thread nD τ).loc main_arg2) i)

/-- The reference's run with the last two results in plain words. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = Value.res_out0 m c
      ∧ r.2.mem ((c.tc : Thread nD τ).loc main_v16) = masked m c
      ∧ r.2.mem ((c.tc : Thread nD τ).loc main_v3) = feature m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1, (h c).2.1.trans (funext fun _ => rfl), (h c).2.2.1.trans (Features.features _ _), (h c).2.2.2⟩) (Value.run m ρ)

/-- The reference leaves its arguments as they were; it declares no semaphore, so every counter reads zero. -/
theorem unchanged (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems (by decide) r.2⟩) (run m ρ)

/-- Where every token is an image token the first result is the features. -/
theorem all_spliced (c : Dev nD) (h : ∀ i, Splice.mask (m ((c.tc : Thread nD τ).loc main_arg0)) i = 1#1) :
    Value.res_out0 m c = feature m c :=
  funext fun y => Splice.spliced m c y (h _) (Count.count_all _ h (y 0 : Fin 4) (y 1 : Fin 1024))

end Cert.ReferenceIdeal.Results

end
-- ==== Proof.InPlace.lean ====
/- What the two predicates say of the token ids: "all image tokens" that every id is the image token's, "in place" that the
   token is an image token and its number among its sequence's image tokens is its position. -/
module

public import proofs.«01_k».proof.Pre_all_image_tokens
public import proofs.«01_k».proof.On_in_place
public import proofs.«01_k».proof.Proof.Count

@[expose] public section

noncomputable section

namespace Cert.InPlace

open Cert.ReferenceIdeal Idealize.ShloMosaic.ValueIdx
open Idealize.ShloMosaic hiding ix2 ix3 ix4 ix6

/-- The side condition of "all image tokens". -/
theorem factsAll : Cert.Pre_all_image_tokens.Facts where
  bcast_S_S4x1024 := by decide

/-- The side conditions of "in place". -/
theorem factsIn : Cert.On_in_place.Facts where
  bcast_S_S4x1024 := by decide
  natLt_1_32 := by decide
  bcast_S_S_ := by decide
  reduceWindows_S4x1024_S4x1024_w1s1p0_0_w1024s1p1023_0 := by decide
  h_S_ := by decide
  bcast_S_S4x1024x1024 := by decide
  bcast_S4x1024_S4x1024x1_0_1 := by decide
  bcast_S4x1024x1_S4x1024x1024_0_1_2 := by decide

/-- Where all tokens are image tokens the mask is set everywhere. -/
theorem mask_of_all [Cert.Pre_all_image_tokens.Facts] (ids : IVec S4x1024 32) (x : FVec Ideal S4x3x512x512 .f32) (l : IVec S4x1024 32) (t : FVec Ideal S100000x1024 .f32) (w : FVec Ideal S768x1024 .f32)
    (h : Cert.Pre_all_image_tokens.fn (F := Ideal) ids x l t w = fun _ => 1#1) (i : S4x1024.Idx) :
    Splice.mask ids i = 1#1 := congrFun h i

/-- What "in place" says of an entry of the first result. -/
theorem of_in_place [Cert.On_in_place.Facts] (ids : IVec S4x1024 32) (x : FVec Ideal S4x3x512x512 .f32) (l : IVec S4x1024 32) (t : FVec Ideal S100000x1024 .f32) (w : FVec Ideal S768x1024 .f32)
    (y : S4x1024x1024.Idx) (h : (Cert.On_in_place.fn (F := Ideal) ids x l t w).1 y = 1#1) :
    Splice.mask ids (ix2 (y 0 : Fin 4) (y 1 : Fin 1024)) = 1#1
      ∧ Splice.count ids (ix2 (y 0 : Fin 4) (y 1 : Fin 1024)) - 1#32 = BitVec.ofNat 32 (y 1).val := by
  have b1 := broadcastInDim_apply (![0, 1, 2] : Fin 3 → Fin 3) Gen.facts.toFacts₀.bcast_S4x1024x1_S4x1024x1024_0_1_2
    (broadcastInDim S4x1024x1 ![0, 1] Gen.facts.toFacts₀.bcast_S4x1024_S4x1024x1_0_1
      (andi (Splice.mask ids) (cmpi .eq (subi (Splice.count ids) (broadcastInDim S4x1024 ![] Gen.facts.toFacts₀.bcast_S_S4x1024 (constantI S_ 32 1#32))) (iotaInDim S4x1024 32 1))))
    y (ix3 (y 0 : Fin 4) (y 1 : Fin 1024) (0 : Fin 1)) (fun a => by
      match a with | ⟨0, _⟩ => rfl | ⟨1, _⟩ => rfl | ⟨2, _⟩ => rfl)
  have b2 := broadcastInDim_apply (![0, 1] : Fin 2 → Fin 3) Gen.facts.toFacts₀.bcast_S4x1024_S4x1024x1_0_1
    (andi (Splice.mask ids) (cmpi .eq (subi (Splice.count ids) (broadcastInDim S4x1024 ![] Gen.facts.toFacts₀.bcast_S_S4x1024 (constantI S_ 32 1#32))) (iotaInDim S4x1024 32 1)))
    (ix3 (y 0 : Fin 4) (y 1 : Fin 1024) (0 : Fin 1)) (ix2 (y 0 : Fin 4) (y 1 : Fin 1024)) (fun a => by
      match a with | ⟨0, _⟩ => rfl | ⟨1, _⟩ => rfl)
  have e := ((b1.trans b2).symm.trans h)
  obtain ⟨hm, hc⟩ := IntOp.andi_eq_one.1 e
  exact ⟨hm, StableHlo.Predicate.cmpi_eq_iff.1 hc⟩

end Cert.InPlace

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Labels
public import proofs.«01_k».proof.Proof.Results
public import proofs.«01_k».proof.Proof.InPlace
public import Idealize.ShloMosaic.Adequacy
public import Idealize.ShloMosaic.Init

@[expose] public section

noncomputable section

namespace Cert.Proof

open Idealize.ShloMosaic Idealize.SL.Sem

/-- The kernel's memory and the reference's agree on the arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

section

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The features of equal images and weights are equal. -/
theorem feature_agree (h : Agree m m') (c : Dev Cert.KernelIdeal.nD) :
    Cert.ReferenceIdeal.Results.feature m' c = Cert.KernelIdeal.Arrays.feature m c :=
  congrArg₂ Cert.Patch.feature (h c).2.1 (h c).2.2.2.2

/-- The masked labels of equal ids and labels are equal. -/
theorem masked_agree (h : Agree m m') (c : Dev Cert.KernelIdeal.nD) :
    Cert.ReferenceIdeal.Results.masked m' c = Cert.KernelIdeal.Labels.masked m c :=
  funext fun i => congrArg₂ Cert.KernelIdeal.Block.kept (congrFun (h c).1 i) (congrFun (h c).2.2.1 i)

end

/-- On inputs that are all image tokens the three results are equal everywhere. -/
theorem equal_of_all [Cert.Pre_all_image_tokens.Facts] :
    Cert.algebraic_KernelIdeal_ReferenceIdeal_pre_all_image_tokens (hKernelIdeal := Cert.KernelIdeal.Gen.facts)
      (hReferenceIdeal := Cert.ReferenceIdeal.Gen.facts) := by
  intro m g m' g' hp h
  refine ⟨fun c => Cert.KernelIdeal.Arrays.feature m c, fun c => Cert.KernelIdeal.Labels.masked m c,
    fun c => Cert.KernelIdeal.Arrays.feature m c, Cert.KernelIdeal.Labels.run m g,
    (θ_run Cert.ReferenceIdeal.defs _ _).mono (fun _ hr c => ?_) (Cert.ReferenceIdeal.Results.run m' g')⟩
  have hm : ∀ i, Cert.ReferenceIdeal.Splice.mask (m' ((c.tc : Thread Cert.ReferenceIdeal.nD Cert.ReferenceIdeal.τ).loc Cert.ReferenceIdeal.main_arg0)) i = 1#1 :=
    fun i => (congrArg (fun ids => Cert.ReferenceIdeal.Splice.mask ids i) (h c).1).trans (Cert.InPlace.mask_of_all _ _ _ _ _ (hp c) i)
  exact ⟨(hr c).1.trans ((Cert.ReferenceIdeal.Results.all_spliced m' c hm).trans (feature_agree h c)),
    (hr c).2.1.trans (masked_agree h c), (hr c).2.2.1.trans (feature_agree h c), (hr c).2.2.2⟩

/-- On every input the results are equal wherever the mask is set: the second and third everywhere, the first at the image
    tokens that stand in their place. -/
theorem equal_in_place [Cert.On_in_place.Facts] :
    Cert.algebraic_KernelIdeal_ReferenceIdeal_on_in_place (hKernelIdeal := Cert.KernelIdeal.Gen.facts)
      (hReferenceIdeal := Cert.ReferenceIdeal.Gen.facts) := by
  intro m g m' g' _ h
  refine ⟨fun c => Cert.KernelIdeal.Arrays.feature m c, fun c => Cert.KernelIdeal.Labels.masked m c,
    fun c => Cert.KernelIdeal.Arrays.feature m c,
    (θ_run Cert.KernelIdeal.defs _ _).mono (fun _ hr c => ⟨fun i _ => congrFun (hr c).1 i, fun i _ => congrFun (hr c).2.1 i,
      fun i _ => congrFun (hr c).2.2.1 i, (hr c).2.2.2⟩) (Cert.KernelIdeal.Labels.run m g),
    (θ_run Cert.ReferenceIdeal.defs _ _).mono (fun _ hr c => ⟨fun i hi => ?_,
      fun i _ => congrFun ((hr c).2.1.trans (masked_agree h c)) i,
      fun i _ => congrFun ((hr c).2.2.1.trans (feature_agree h c)) i, (hr c).2.2.2⟩) (Cert.ReferenceIdeal.Results.run m' g')⟩
  have hp := Cert.InPlace.of_in_place _ _ _ _ _ i hi
  refine (congrFun (hr c).1 i).trans ((Cert.ReferenceIdeal.Splice.spliced m' c i ?_ ?_).trans (congrFun (feature_agree h c) i))
  · exact (congrArg (fun ids => Cert.ReferenceIdeal.Splice.mask ids _) (h c).1).trans hp.1
  · exact (congrArg (fun ids => Cert.ReferenceIdeal.Splice.count ids _ - 1#32) (h c).1).trans hp.2

theorem claim : Cert.Claim :=
  ⟨Cert.Kernel.Gen.facts, Cert.KernelIdeal.Gen.facts, Cert.ReferenceIdeal.Gen.facts, Cert.InPlace.factsAll, Cert.InPlace.factsIn,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Results.unchanged m ρ,
    fun m ρ _ => Cert.ReferenceIdeal.Results.unchanged m ρ,
    trivial,
    @equal_of_all Cert.InPlace.factsAll,
    @equal_in_place Cert.InPlace.factsIn⟩

end Cert.Proof

end
